-- ==== Defs.lean ====
def Pre_Kernel [hPre_idx_in_range : Cert.Pre_idx_in_range.Facts] (m : (ℓ : Loc Cert.Kernel.nD Cert.Kernel.τ Cert.Kernel.sig) → Buf (Elt Bits) ℓ) : Prop :=
  ∀ c : Dev Cert.Kernel.nD,
    (Cert.Pre_idx_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_idx_in_range : Cert.Pre_idx_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_sums_nonzero [hPre_sums_nonzero : Cert.Pre_sums_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_sums_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sums_nonzero [hPre_sums_nonzero : Cert.Pre_sums_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sums_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Select (m : (ℓ : Loc Cert.Select.nD Cert.Select.τ Cert.Select.sig) → Buf (Elt Bits) ℓ) : Prop :=
  True

def Pre_SelectIdeal (m : (ℓ : Loc Cert.SelectIdeal.nD Cert.SelectIdeal.τ Cert.SelectIdeal.sig) → Buf (Elt Ideal) ℓ) : Prop :=
  True

def Pre_SelectIdeal_points_finite [hPre_points_finite : Cert.Pre_points_finite.Facts] (m : (ℓ : Loc Cert.SelectIdeal.nD Cert.SelectIdeal.τ Cert.SelectIdeal.sig) → Buf (Elt Ideal) ℓ) : Prop :=
  ∀ c : Dev Cert.SelectIdeal.nD,
    (Cert.Pre_points_finite.fn (F := Ideal) (m ((c.tc : Thread Cert.SelectIdeal.nD Cert.SelectIdeal.τ).loc Cert.SelectIdeal.main_arg0)) (m ((c.tc : Thread Cert.SelectIdeal.nD Cert.SelectIdeal.τ).loc Cert.SelectIdeal.main_arg1)) (m ((c.tc : Thread Cert.SelectIdeal.nD Cert.SelectIdeal.τ).loc Cert.SelectIdeal.main_arg2)) (m ((c.tc : Thread Cert.SelectIdeal.nD Cert.SelectIdeal.τ).loc Cert.SelectIdeal.main_arg3)) (m ((c.tc : Thread Cert.SelectIdeal.nD Cert.SelectIdeal.τ).loc Cert.SelectIdeal.main_arg4)) (m ((c.tc : Thread Cert.SelectIdeal.nD Cert.SelectIdeal.τ).loc Cert.SelectIdeal.main_arg5))) = (fun _ => 1#1)

def Pre_SelectReferenceIdeal (m : (ℓ : Loc Cert.SelectReferenceIdeal.nD Cert.SelectReferenceIdeal.τ Cert.SelectReferenceIdeal.sig) → Buf (Elt Ideal) ℓ) : Prop :=
  True

def Pre_SelectReferenceIdeal_points_finite [hPre_points_finite : Cert.Pre_points_finite.Facts] (m : (ℓ : Loc Cert.SelectReferenceIdeal.nD Cert.SelectReferenceIdeal.τ Cert.SelectReferenceIdeal.sig) → Buf (Elt Ideal) ℓ) : Prop :=
  ∀ c : Dev Cert.SelectReferenceIdeal.nD,
    (Cert.Pre_points_finite.fn (F := Ideal) (m ((c.tc : Thread Cert.SelectReferenceIdeal.nD Cert.SelectReferenceIdeal.τ).loc Cert.SelectReferenceIdeal.main_arg0)) (m ((c.tc : Thread Cert.SelectReferenceIdeal.nD Cert.SelectReferenceIdeal.τ).loc Cert.SelectReferenceIdeal.main_arg1)) (m ((c.tc : Thread Cert.SelectReferenceIdeal.nD Cert.SelectReferenceIdeal.τ).loc Cert.SelectReferenceIdeal.main_arg2)) (m ((c.tc : Thread Cert.SelectReferenceIdeal.nD Cert.SelectReferenceIdeal.τ).loc Cert.SelectReferenceIdeal.main_arg3)) (m ((c.tc : Thread Cert.SelectReferenceIdeal.nD Cert.SelectReferenceIdeal.τ).loc Cert.SelectReferenceIdeal.main_arg4)) (m ((c.tc : Thread Cert.SelectReferenceIdeal.nD Cert.SelectReferenceIdeal.τ).loc Cert.SelectReferenceIdeal.main_arg5))) = (fun _ => 1#1)

def quiescent_Kernel [hKernel : Cert.Kernel.Facts] [hPre_idx_in_range : Cert.Pre_idx_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_idx_in_range : Cert.Pre_idx_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_sums_nonzero [hKernelIdeal : Cert.KernelIdeal.Facts] [hPre_sums_nonzero : Cert.Pre_sums_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sums_nonzero m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_sums_nonzero [hReferenceIdeal : Cert.ReferenceIdeal.Facts] [hPre_sums_nonzero : Cert.Pre_sums_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sums_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Select [hSelect : Cert.Select.Facts] : Prop :=
  ∀ (m : (ℓ : Loc Cert.Select.nD Cert.Select.τ Cert.Select.sig) → Buf (Elt Bits) ℓ) (g : Dev Cert.Select.nD → PrngReg), Pre_Select m →
    θ_run (Cert.Select.defs (F := Bits)) (onTc (τ := Cert.Select.τ) (Cert.Select.main (F := Bits))) ⟨m, fun _ => 0, g⟩ (fun r => (∀ c : Dev Cert.Select.nD,
      r.2.mem ((c.tc : Thread Cert.Select.nD Cert.Select.τ).loc Cert.Select.main_arg0) = m ((c.tc : Thread Cert.Select.nD Cert.Select.τ).loc Cert.Select.main_arg0)
      ∧ r.2.mem ((c.tc : Thread Cert.Select.nD Cert.Select.τ).loc Cert.Select.main_arg1) = m ((c.tc : Thread Cert.Select.nD Cert.Select.τ).loc Cert.Select.main_arg1)
      ∧ r.2.mem ((c.tc : Thread Cert.Select.nD Cert.Select.τ).loc Cert.Select.main_arg2) = m ((c.tc : Thread Cert.Select.nD Cert.Select.τ).loc Cert.Select.main_arg2)
      ∧ r.2.mem ((c.tc : Thread Cert.Select.nD Cert.Select.τ).loc Cert.Select.main_arg3) = m ((c.tc : Thread Cert.Select.nD Cert.Select.τ).loc Cert.Select.main_arg3)
      ∧ r.2.mem ((c.tc : Thread Cert.Select.nD Cert.Select.τ).loc Cert.Select.main_arg4) = m ((c.tc : Thread Cert.Select.nD Cert.Select.τ).loc Cert.Select.main_arg4)
      ∧ r.2.mem ((c.tc : Thread Cert.Select.nD Cert.Select.τ).loc Cert.Select.main_arg5) = m ((c.tc : Thread Cert.Select.nD Cert.Select.τ).loc Cert.Select.main_arg5))
      ∧ r.2.sem = fun _ => 0)

def quiescent_SelectIdeal [hSelectIdeal : Cert.SelectIdeal.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
      ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1)
      ∧ r.2.mem ((c.tc : Thread Cert.SelectIdeal.nD Cert.SelectIdeal.τ).loc Cert.SelectIdeal.main_arg2) = m ((c.tc : Thread Cert.SelectIdeal.nD Cert.SelectIdeal.τ).loc Cert.SelectIdeal.main_arg2)
      ∧ r.2.mem ((c.tc : Thread Cert.SelectIdeal.nD Cert.SelectIdeal.τ).loc Cert.SelectIdeal.main_arg3) = m ((c.tc : Thread Cert.SelectIdeal.nD Cert.SelectIdeal.τ).loc Cert.SelectIdeal.main_arg3)
      ∧ r.2.mem ((c.tc : Thread Cert.SelectIdeal.nD Cert.SelectIdeal.τ).loc Cert.SelectIdeal.main_arg4) = m ((c.tc : Thread Cert.SelectIdeal.nD Cert.SelectIdeal.τ).loc Cert.SelectIdeal.main_arg4)
      ∧ r.2.mem ((c.tc : Thread Cert.SelectIdeal.nD Cert.SelectIdeal.τ).loc Cert.SelectIdeal.main_arg5) = m ((c.tc : Thread Cert.SelectIdeal.nD Cert.SelectIdeal.τ).loc Cert.SelectIdeal.main_arg5))
      ∧ r.2.sem = fun _ => 0)

def quiescent_SelectIdeal_pre_points_finite [hSelectIdeal : Cert.SelectIdeal.Facts] [hPre_points_finite : Cert.Pre_points_finite.Facts] : Prop :=
  ∀ (m : (ℓ : Loc Cert.SelectIdeal.nD Cert.SelectIdeal.τ Cert.SelectIdeal.sig) → Buf (Elt Ideal) ℓ) (g : Dev Cert.SelectIdeal.nD → PrngReg), Pre_SelectIdeal_points_finite m →
    θ_run (Cert.SelectIdeal.defs (F := Ideal)) (onTc (τ := Cert.SelectIdeal.τ) (Cert.SelectIdeal.main (F := Ideal))) ⟨m, fun _ => 0, g⟩ (fun r => (∀ c : Dev Cert.SelectIdeal.nD,
      r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
      ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1)
      ∧ r.2.mem ((c.tc : Thread Cert.SelectIdeal.nD Cert.SelectIdeal.τ).loc Cert.SelectIdeal.main_arg2) = m ((c.tc : Thread Cert.SelectIdeal.nD Cert.SelectIdeal.τ).loc Cert.SelectIdeal.main_arg2)
      ∧ r.2.mem ((c.tc : Thread Cert.SelectIdeal.nD Cert.SelectIdeal.τ).loc Cert.SelectIdeal.main_arg3) = m ((c.tc : Thread Cert.SelectIdeal.nD Cert.SelectIdeal.τ).loc Cert.SelectIdeal.main_arg3)
      ∧ r.2.mem ((c.tc : Thread Cert.SelectIdeal.nD Cert.SelectIdeal.τ).loc Cert.SelectIdeal.main_arg4) = m ((c.tc : Thread Cert.SelectIdeal.nD Cert.SelectIdeal.τ).loc Cert.SelectIdeal.main_arg4)
      ∧ r.2.mem ((c.tc : Thread Cert.SelectIdeal.nD Cert.SelectIdeal.τ).loc Cert.SelectIdeal.main_arg5) = m ((c.tc : Thread Cert.SelectIdeal.nD Cert.SelectIdeal.τ).loc Cert.SelectIdeal.main_arg5))
      ∧ r.2.sem = fun _ => 0)

def quiescent_SelectReferenceIdeal [hSelectReferenceIdeal : Cert.SelectReferenceIdeal.Facts] : Prop :=
  ∀ (m : (ℓ : Loc Cert.SelectReferenceIdeal.nD Cert.SelectReferenceIdeal.τ Cert.SelectReferenceIdeal.sig) → Buf (Elt Ideal) ℓ) (g : Dev Cert.SelectReferenceIdeal.nD → PrngReg), Pre_SelectReferenceIdeal m →
    θ_run (Cert.SelectReferenceIdeal.defs (F := Ideal)) (onTc (τ := Cert.SelectReferenceIdeal.τ) (Cert.SelectReferenceIdeal.main (F := Ideal))) ⟨m, fun _ => 0, g⟩ (fun r => (∀ c : Dev Cert.SelectReferenceIdeal.nD,
      r.2.mem ((c.tc : Thread Cert.SelectReferenceIdeal.nD Cert.SelectReferenceIdeal.τ).loc Cert.SelectReferenceIdeal.main_arg0) = m ((c.tc : Thread Cert.SelectReferenceIdeal.nD Cert.SelectReferenceIdeal.τ).loc Cert.SelectReferenceIdeal.main_arg0)
      ∧ r.2.mem ((c.tc : Thread Cert.SelectReferenceIdeal.nD Cert.SelectReferenceIdeal.τ).loc Cert.SelectReferenceIdeal.main_arg1) = m ((c.tc : Thread Cert.SelectReferenceIdeal.nD Cert.SelectReferenceIdeal.τ).loc Cert.SelectReferenceIdeal.main_arg1)
      ∧ r.2.mem ((c.tc : Thread Cert.SelectReferenceIdeal.nD Cert.SelectReferenceIdeal.τ).loc Cert.SelectReferenceIdeal.main_arg2) = m ((c.tc : Thread Cert.SelectReferenceIdeal.nD Cert.SelectReferenceIdeal.τ).loc Cert.SelectReferenceIdeal.main_arg2)
      ∧ r.2.mem ((c.tc : Thread Cert.SelectReferenceIdeal.nD Cert.SelectReferenceIdeal.τ).loc Cert.SelectReferenceIdeal.main_arg3) = m ((c.tc : Thread Cert.SelectReferenceIdeal.nD Cert.SelectReferenceIdeal.τ).loc Cert.SelectReferenceIdeal.main_arg3)
      ∧ r.2.mem ((c.tc : Thread Cert.SelectReferenceIdeal.nD Cert.SelectReferenceIdeal.τ).loc Cert.SelectReferenceIdeal.main_arg4) = m ((c.tc : Thread Cert.SelectReferenceIdeal.nD Cert.SelectReferenceIdeal.τ).loc Cert.SelectReferenceIdeal.main_arg4)
      ∧ r.2.mem ((c.tc : Thread Cert.SelectReferenceIdeal.nD Cert.SelectReferenceIdeal.τ).loc Cert.SelectReferenceIdeal.main_arg5) = m ((c.tc : Thread Cert.SelectReferenceIdeal.nD Cert.SelectReferenceIdeal.τ).loc Cert.SelectReferenceIdeal.main_arg5))
      ∧ r.2.sem = fun _ => 0)

def quiescent_SelectReferenceIdeal_pre_points_finite [hSelectReferenceIdeal : Cert.SelectReferenceIdeal.Facts] [hPre_points_finite : Cert.Pre_points_finite.Facts] : Prop :=
  ∀ (m : (ℓ : Loc Cert.SelectReferenceIdeal.nD Cert.SelectReferenceIdeal.τ Cert.SelectReferenceIdeal.sig) → Buf (Elt Ideal) ℓ) (g : Dev Cert.SelectReferenceIdeal.nD → PrngReg), Pre_SelectReferenceIdeal_points_finite m →
    θ_run (Cert.SelectReferenceIdeal.defs (F := Ideal)) (onTc (τ := Cert.SelectReferenceIdeal.τ) (Cert.SelectReferenceIdeal.main (F := Ideal))) ⟨m, fun _ => 0, g⟩ (fun r => (∀ c : Dev Cert.SelectReferenceIdeal.nD,
      r.2.mem ((c.tc : Thread Cert.SelectReferenceIdeal.nD Cert.SelectReferenceIdeal.τ).loc Cert.SelectReferenceIdeal.main_arg0) = m ((c.tc : Thread Cert.SelectReferenceIdeal.nD Cert.SelectReferenceIdeal.τ).loc Cert.SelectReferenceIdeal.main_arg0)
      ∧ r.2.mem ((c.tc : Thread Cert.SelectReferenceIdeal.nD Cert.SelectReferenceIdeal.τ).loc Cert.SelectReferenceIdeal.main_arg1) = m ((c.tc : Thread Cert.SelectReferenceIdeal.nD Cert.SelectReferenceIdeal.τ).loc Cert.SelectReferenceIdeal.main_arg1)
      ∧ r.2.mem ((c.tc : Thread Cert.SelectReferenceIdeal.nD Cert.SelectReferenceIdeal.τ).loc Cert.SelectReferenceIdeal.main_arg2) = m ((c.tc : Thread Cert.SelectReferenceIdeal.nD Cert.SelectReferenceIdeal.τ).loc Cert.SelectReferenceIdeal.main_arg2)
      ∧ r.2.mem ((c.tc : Thread Cert.SelectReferenceIdeal.nD Cert.SelectReferenceIdeal.τ).loc Cert.SelectReferenceIdeal.main_arg3) = m ((c.tc : Thread Cert.SelectReferenceIdeal.nD Cert.SelectReferenceIdeal.τ).loc Cert.SelectReferenceIdeal.main_arg3)
      ∧ r.2.mem ((c.tc : Thread Cert.SelectReferenceIdeal.nD Cert.SelectReferenceIdeal.τ).loc Cert.SelectReferenceIdeal.main_arg4) = m ((c.tc : Thread Cert.SelectReferenceIdeal.nD Cert.SelectReferenceIdeal.τ).loc Cert.SelectReferenceIdeal.main_arg4)
      ∧ r.2.mem ((c.tc : Thread Cert.SelectReferenceIdeal.nD Cert.SelectReferenceIdeal.τ).loc Cert.SelectReferenceIdeal.main_arg5) = m ((c.tc : Thread Cert.SelectReferenceIdeal.nD Cert.SelectReferenceIdeal.τ).loc Cert.SelectReferenceIdeal.main_arg5))
      ∧ r.2.sem = fun _ => 0)

def preserves_Kernel_KernelIdeal : Prop :=
  True

def algebraic_KernelIdeal_ReferenceIdeal_pre_sums_nonzero [hKernelIdeal : Cert.KernelIdeal.Facts] [hReferenceIdeal : Cert.ReferenceIdeal.Facts] [hPre_sums_nonzero : Cert.Pre_sums_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sums_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Select_SelectIdeal : Prop :=
  True

def algebraic_SelectIdeal_SelectReferenceIdeal_pre_points_finite [hSelectIdeal : Cert.SelectIdeal.Facts] [hSelectReferenceIdeal : Cert.SelectReferenceIdeal.Facts] [hPre_points_finite : Cert.Pre_points_finite.Facts] : Prop :=
  ∀ (m : (ℓ : Loc Cert.SelectIdeal.nD Cert.SelectIdeal.τ Cert.SelectIdeal.sig) → Buf (Elt Ideal) ℓ) (g : Dev Cert.SelectIdeal.nD → PrngReg)
    (m' : (ℓ : Loc Cert.SelectReferenceIdeal.nD Cert.SelectReferenceIdeal.τ Cert.SelectReferenceIdeal.sig) → Buf (Elt Ideal) ℓ) (g' : Dev Cert.SelectReferenceIdeal.nD → PrngReg), Pre_SelectIdeal_points_finite m →
    (∀ c : Dev Cert.SelectIdeal.nD,
      m' ((c.tc : Thread Cert.SelectReferenceIdeal.nD Cert.SelectReferenceIdeal.τ).loc Cert.SelectReferenceIdeal.main_arg0) = m ((c.tc : Thread Cert.SelectIdeal.nD Cert.SelectIdeal.τ).loc Cert.SelectIdeal.main_arg0)
      ∧ m' ((c.tc : Thread Cert.SelectReferenceIdeal.nD Cert.SelectReferenceIdeal.τ).loc Cert.SelectReferenceIdeal.main_arg1) = m ((c.tc : Thread Cert.SelectIdeal.nD Cert.SelectIdeal.τ).loc Cert.SelectIdeal.main_arg1)
      ∧ m' ((c.tc : Thread Cert.SelectReferenceIdeal.nD Cert.SelectReferenceIdeal.τ).loc Cert.SelectReferenceIdeal.main_arg2) = m ((c.tc : Thread Cert.SelectIdeal.nD Cert.SelectIdeal.τ).loc Cert.SelectIdeal.main_arg2)
      ∧ m' ((c.tc : Thread Cert.SelectReferenceIdeal.nD Cert.SelectReferenceIdeal.τ).loc Cert.SelectReferenceIdeal.main_arg3) = m ((c.tc : Thread Cert.SelectIdeal.nD Cert.SelectIdeal.τ).loc Cert.SelectIdeal.main_arg3)
      ∧ m' ((c.tc : Thread Cert.SelectReferenceIdeal.nD Cert.SelectReferenceIdeal.τ).loc Cert.SelectReferenceIdeal.main_arg4) = m ((c.tc : Thread Cert.SelectIdeal.nD Cert.SelectIdeal.τ).loc Cert.SelectIdeal.main_arg4)
      ∧ m' ((c.tc : Thread Cert.SelectReferenceIdeal.nD Cert.SelectReferenceIdeal.τ).loc Cert.SelectReferenceIdeal.main_arg5) = m ((c.tc : Thread Cert.SelectIdeal.nD Cert.SelectIdeal.τ).loc Cert.SelectIdeal.main_arg5)) →
    ∃ (v0 : (c : Dev Cert.SelectIdeal.nD) → Buf (Elt Ideal) ((c.tc : Thread Cert.SelectIdeal.nD Cert.SelectIdeal.τ).loc Cert.SelectIdeal.main_v2_2)) (v1 : (c : Dev Cert.SelectIdeal.nD) → Buf (Elt Ideal) ((c.tc : Thread Cert.SelectIdeal.nD Cert.SelectIdeal.τ).loc Cert.SelectIdeal.main_v2_0)) (v2 : (c : Dev Cert.SelectIdeal.nD) → Buf (Elt Ideal) ((c.tc : Thread Cert.SelectIdeal.nD Cert.SelectIdeal.τ).loc Cert.SelectIdeal.main_v3_0)) (v3 : (c : Dev Cert.SelectIdeal.nD) → Buf (Elt Ideal) ((c.tc : Thread Cert.SelectIdeal.nD Cert.SelectIdeal.τ).loc Cert.SelectIdeal.main_v4)),
      θ_run (Cert.SelectIdeal.defs (F := Ideal)) (onTc (τ := Cert.SelectIdeal.τ) (Cert.SelectIdeal.main (F := Ideal))) ⟨m, fun _ => 0, g⟩ (fun r => ∀ c : Dev Cert.SelectIdeal.nD,
          r.2.mem ((c.tc : Thread Cert.SelectIdeal.nD Cert.SelectIdeal.τ).loc Cert.SelectIdeal.main_v2_2) = v0 c
          ∧ r.2.mem ((c.tc : Thread Cert.SelectIdeal.nD Cert.SelectIdeal.τ).loc Cert.SelectIdeal.main_v2_0) = v1 c
          ∧ r.2.mem ((c.tc : Thread Cert.SelectIdeal.nD Cert.SelectIdeal.τ).loc Cert.SelectIdeal.main_v3_0) = v2 c
          ∧ r.2.mem ((c.tc : Thread Cert.SelectIdeal.nD Cert.SelectIdeal.τ).loc Cert.SelectIdeal.main_v4) = v3 c
          ∧ r.2.mem ((c.tc : Thread Cert.SelectIdeal.nD Cert.SelectIdeal.τ).loc Cert.SelectIdeal.main_arg0) = m ((c.tc : Thread Cert.SelectIdeal.nD Cert.SelectIdeal.τ).loc Cert.SelectIdeal.main_arg0)
          ∧ r.2.mem ((c.tc : Thread Cert.SelectIdeal.nD Cert.SelectIdeal.τ).loc Cert.SelectIdeal.main_arg1) = m ((c.tc : Thread Cert.SelectIdeal.nD Cert.SelectIdeal.τ).loc Cert.SelectIdeal.main_arg1)
          ∧ r.2.mem ((c.tc : Thread Cert.SelectIdeal.nD Cert.SelectIdeal.τ).loc Cert.SelectIdeal.main_arg2) = m ((c.tc : Thread Cert.SelectIdeal.nD Cert.SelectIdeal.τ).loc Cert.SelectIdeal.main_arg2)
          ∧ r.2.mem ((c.tc : Thread Cert.SelectIdeal.nD Cert.SelectIdeal.τ).loc Cert.SelectIdeal.main_arg3) = m ((c.tc : Thread Cert.SelectIdeal.nD Cert.SelectIdeal.τ).loc Cert.SelectIdeal.main_arg3)
          ∧ r.2.mem ((c.tc : Thread Cert.SelectIdeal.nD Cert.SelectIdeal.τ).loc Cert.SelectIdeal.main_arg4) = m ((c.tc : Thread Cert.SelectIdeal.nD Cert.SelectIdeal.τ).loc Cert.SelectIdeal.main_arg4)
          ∧ r.2.mem ((c.tc : Thread Cert.SelectIdeal.nD Cert.SelectIdeal.τ).loc Cert.SelectIdeal.main_arg5) = m ((c.tc : Thread Cert.SelectIdeal.nD Cert.SelectIdeal.τ).loc Cert.SelectIdeal.main_arg5))
      ∧ θ_run (Cert.SelectReferenceIdeal.defs (F := Ideal)) (onTc (τ := Cert.SelectReferenceIdeal.τ) (Cert.SelectReferenceIdeal.main (F := Ideal))) ⟨m', fun _ => 0, g'⟩ (fun r => ∀ c : Dev Cert.SelectReferenceIdeal.nD,
          r.2.mem ((c.tc : Thread Cert.SelectReferenceIdeal.nD Cert.SelectReferenceIdeal.τ).loc Cert.SelectReferenceIdeal.main_v22) = v0 c
          ∧ r.2.mem ((c.tc : Thread Cert.SelectReferenceIdeal.nD Cert.SelectReferenceIdeal.τ).loc Cert.SelectReferenceIdeal.main_v14) = v1 c
          ∧ r.2.mem ((c.tc : Thread Cert.SelectReferenceIdeal.nD Cert.SelectReferenceIdeal.τ).loc Cert.SelectReferenceIdeal.main_indices) = v2 c
          ∧ r.2.mem ((c.tc : Thread Cert.SelectReferenceIdeal.nD Cert.SelectReferenceIdeal.τ).loc Cert.SelectReferenceIdeal.main_indices_8) = v3 c
          ∧ r.2.mem ((c.tc : Thread Cert.SelectReferenceIdeal.nD Cert.SelectReferenceIdeal.τ).loc Cert.SelectReferenceIdeal.main_arg0) = m' ((c.tc : Thread Cert.SelectReferenceIdeal.nD Cert.SelectReferenceIdeal.τ).loc Cert.SelectReferenceIdeal.main_arg0)
          ∧ r.2.mem ((c.tc : Thread Cert.SelectReferenceIdeal.nD Cert.SelectReferenceIdeal.τ).loc Cert.SelectReferenceIdeal.main_arg1) = m' ((c.tc : Thread Cert.SelectReferenceIdeal.nD Cert.SelectReferenceIdeal.τ).loc Cert.SelectReferenceIdeal.main_arg1)
          ∧ r.2.mem ((c.tc : Thread Cert.SelectReferenceIdeal.nD Cert.SelectReferenceIdeal.τ).loc Cert.SelectReferenceIdeal.main_arg2) = m' ((c.tc : Thread Cert.SelectReferenceIdeal.nD Cert.SelectReferenceIdeal.τ).loc Cert.SelectReferenceIdeal.main_arg2)
          ∧ r.2.mem ((c.tc : Thread Cert.SelectReferenceIdeal.nD Cert.SelectReferenceIdeal.τ).loc Cert.SelectReferenceIdeal.main_arg3) = m' ((c.tc : Thread Cert.SelectReferenceIdeal.nD Cert.SelectReferenceIdeal.τ).loc Cert.SelectReferenceIdeal.main_arg3)
          ∧ r.2.mem ((c.tc : Thread Cert.SelectReferenceIdeal.nD Cert.SelectReferenceIdeal.τ).loc Cert.SelectReferenceIdeal.main_arg4) = m' ((c.tc : Thread Cert.SelectReferenceIdeal.nD Cert.SelectReferenceIdeal.τ).loc Cert.SelectReferenceIdeal.main_arg4)
          ∧ r.2.mem ((c.tc : Thread Cert.SelectReferenceIdeal.nD Cert.SelectReferenceIdeal.τ).loc Cert.SelectReferenceIdeal.main_arg5) = m' ((c.tc : Thread Cert.SelectReferenceIdeal.nD Cert.SelectReferenceIdeal.τ).loc Cert.SelectReferenceIdeal.main_arg5))

def Claim : Prop :=
  ∃ (hKernel : Cert.Kernel.Facts) (hKernelIdeal : Cert.KernelIdeal.Facts) (hReferenceIdeal : Cert.ReferenceIdeal.Facts) (hSelect : Cert.Select.Facts) (hSelectIdeal : Cert.SelectIdeal.Facts) (hSelectReferenceIdeal : Cert.SelectReferenceIdeal.Facts) (hPre_idx_in_range : Cert.Pre_idx_in_range.Facts) (hPre_sums_nonzero : Cert.Pre_sums_nonzero.Facts) (hPre_points_finite : Cert.Pre_points_finite.Facts),
    quiescent_Kernel (hKernel := hKernel) (hPre_idx_in_range := hPre_idx_in_range)
    ∧ quiescent_KernelIdeal (hKernelIdeal := hKernelIdeal) (hPre_idx_in_range := hPre_idx_in_range)
    ∧ quiescent_KernelIdeal_pre_sums_nonzero (hKernelIdeal := hKernelIdeal) (hPre_sums_nonzero := hPre_sums_nonzero)
    ∧ quiescent_ReferenceIdeal (hReferenceIdeal := hReferenceIdeal)
    ∧ quiescent_ReferenceIdeal_pre_sums_nonzero (hReferenceIdeal := hReferenceIdeal) (hPre_sums_nonzero := hPre_sums_nonzero)
    ∧ quiescent_Select (hSelect := hSelect)
    ∧ quiescent_SelectIdeal (hSelectIdeal := hSelectIdeal)
    ∧ quiescent_SelectIdeal_pre_points_finite (hSelectIdeal := hSelectIdeal) (hPre_points_finite := hPre_points_finite)
    ∧ quiescent_SelectReferenceIdeal (hSelectReferenceIdeal := hSelectReferenceIdeal)
    ∧ quiescent_SelectReferenceIdeal_pre_points_finite (hSelectReferenceIdeal := hSelectReferenceIdeal) (hPre_points_finite := hPre_points_finite)
    ∧ preserves_Kernel_KernelIdeal
    ∧ algebraic_KernelIdeal_ReferenceIdeal_pre_sums_nonzero (hKernelIdeal := hKernelIdeal) (hReferenceIdeal := hReferenceIdeal) (hPre_sums_nonzero := hPre_sums_nonzero)
    ∧ preserves_Select_SelectIdeal
    ∧ algebraic_SelectIdeal_SelectReferenceIdeal_pre_points_finite (hSelectIdeal := hSelectIdeal) (hSelectReferenceIdeal := hSelectReferenceIdeal) (hPre_points_finite := hPre_points_finite)
-- ==== Pre_idx_in_range.lean ====
abbrev S4x4096x128 : Shape := ⟨3, ![4, 4096, 128]⟩
abbrev S4x4096x1 : Shape := ⟨3, ![4, 4096, 1]⟩
abbrev S4x512x27 : Shape := ⟨3, ![4, 512, 27]⟩
abbrev S_ : Shape := ⟨0, ![]⟩

class Facts : Prop where
  bcast_S_S4x512x27 : S_.BroadcastsInDim S4x512x27 (![] : Fin 0 → Fin S4x512x27.rank)
  reducesTo_S4x512x27_S_d0_1_2 : S4x512x27.ReducesTo [0, 1, 2] S_
  h_S_ : 0 < S_.numel

variable [Facts]

def fn {F : FTy → Type} [FloatOps F] (main_arg0 : FVec F S4x4096x128 .f32) (main_arg1 : FVec F S4x4096x1 .f32) (main_arg2 : IVec S4x512x27 32) : IVec S_ 1 :=
  let main_c : IVec S_ 32 := constantI S_ 32 0#32
  let main_v0 : IVec S4x512x27 32 := broadcastInDim S4x512x27 ![] bcast_S_S4x512x27 main_c
  let main_v1 : IVec S4x512x27 1 := cmpi .sge main_arg2 main_v0
  let main_c_0 : IVec S_ 32 := constantI S_ 32 4096#32
  let main_v2 : IVec S4x512x27 32 := broadcastInDim S4x512x27 ![] bcast_S_S4x512x27 main_c_0
  let main_v3 : IVec S4x512x27 1 := cmpi .slt main_arg2 main_v2
  let main_v4 : IVec S4x512x27 1 := andi main_v1 main_v3
  let main_c_1 : IVec S_ 1 := constantI S_ 1 1#1
  let main_v5 : IVec S_ 1 := (fun x v => Host.reduce IntOp.andi x v reducesTo_S4x512x27_S_d0_1_2 h_S_) main_v4 main_c_1
  main_v5
-- ==== Pre_points_finite.lean ====
abbrev S4x4096x128 : Shape := ⟨3, ![4, 4096, 128]⟩
abbrev S4x4096x3 : Shape := ⟨3, ![4, 4096, 3]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x128 .f32) (main_arg1 : FVec F S4x4096x3 .f32) (main_arg2 : FVec F S128x64 .f32) (main_arg3 : FVec F S64 .f32) (main_arg4 : FVec F S64x1 .f32) (main_arg5 : FVec F S1 .f32) : IVec S_ 1 :=
  let main_v0 : FVec F S4x4096x3 .f32 := Host.absf main_arg1
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  main_v3
-- ==== Pre_sums_nonzero.lean ====
abbrev S4x4096x128 : Shape := ⟨3, ![4, 4096, 128]⟩
abbrev S4x4096x1 : Shape := ⟨3, ![4, 4096, 1]⟩
abbrev S4x512x27 : Shape := ⟨3, ![4, 512, 27]⟩
abbrev S4x13824x1 : Shape := ⟨3, ![4, 13824, 1]⟩
abbrev S_ : Shape := ⟨0, ![]⟩
abbrev S1 : Shape := ⟨1, ![1]⟩
abbrev S1x1x1 : Shape := ⟨3, ![1, 1, 1]⟩
abbrev S4x13824 : Shape := ⟨2, ![4, 13824]⟩
abbrev S4x512x27x1 : Shape := ⟨4, ![4, 512, 27, 1]⟩
abbrev S4x512x1 : Shape := ⟨3, ![4, 512, 1]⟩

class Facts : Prop where
  shapeCasts_S4x512x27_S4x13824x1 : S4x512x27.ShapeCasts S4x13824x1
  bcast_S_S4x13824x1 : S_.BroadcastsInDim S4x13824x1 (![] : Fin 0 → Fin S4x13824x1.rank)
  bcast_S1_S1x1x1_2 : S1.BroadcastsInDim S1x1x1 (![2] : Fin 1 → Fin S1x1x1.rank)
  bcast_S1x1x1_S4x13824x1_0_1_2 : S1x1x1.BroadcastsInDim S4x13824x1 (![0, 1, 2] : Fin 3 → Fin S4x13824x1.rank)
  reducesTo_S4x13824x1_S4x13824_d2 : S4x13824x1.ReducesTo [2] S4x13824
  h_S_ : 0 < S_.numel
  bcast_S4x13824_S4x13824x1_0_1 : S4x13824.BroadcastsInDim S4x13824x1 (![0, 1] : Fin 2 → Fin S4x13824x1.rank)
  shapeCasts_S4x13824x1_S4x512x27x1 : S4x13824x1.ShapeCasts S4x512x27x1
  bcast_S_S4x512x27 : S_.BroadcastsInDim S4x512x27 (![] : Fin 0 → Fin S4x512x27.rank)
  reducesTo_S4x512x27_S_d0_1_2 : S4x512x27.ReducesTo [0, 1, 2] S_
  reducesTo_S4x512x27x1_S4x512x1_d2 : S4x512x27x1.ReducesTo [2] S4x512x1
  bcast_S_S4x512x1 : S_.BroadcastsInDim S4x512x1 (![] : Fin 0 → Fin S4x512x1.rank)
  reducesTo_S4x512x1_S_d0_1_2 : S4x512x1.ReducesTo [0, 1, 2] S_
  gather_S4x4096x1_S4x13824x1_S4x13824x1_2_1_0_0_1_2_111_wf : GatherDims.WF S4x4096x1 S4x13824x1 S4x13824x1 [2] [1] [0] [1] [0] 2 ![1, 1, 1]

variable [Facts]

def gather_S4x4096x1_S4x13824x1_S4x13824x1_2_1_0_0_1_2_111 : GatherDims S4x4096x1 S4x13824x1 S4x13824x1 where
  offsetDims := [2]
  collapsedSliceDims := [1]
  operandBatchingDims := [0]
  startIndicesBatchingDims := [0]
  startIndexMap := [1]
  indexVectorDim := 2
  sliceSizes := ![1, 1, 1]
  wf := gather_S4x4096x1_S4x13824x1_S4x13824x1_2_1_0_0_1_2_111_wf
def fn_take_along_axis {F : FTy → Type} [FloatOps F] (arg0 : FVec F S4x4096x1 .f32) (arg1 : IVec S4x13824x1 32) : FVec F S4x13824x1 .f32 :=
  let c : IVec S_ 32 := constantI S_ 32 0#32
  let v0 : IVec S4x13824x1 32 := broadcastInDim S4x13824x1 ![] bcast_S_S4x13824x1 c
  let v1 : IVec S4x13824x1 1 := cmpi .slt arg1 v0
  let c_0 : IVec S_ 32 := constantI S_ 32 4096#32
  let v2 : IVec S4x13824x1 32 := broadcastInDim S4x13824x1 ![] bcast_S_S4x13824x1 c_0
  let v3 : IVec S4x13824x1 32 := addi arg1 v2
  let v4 : IVec S4x13824x1 32 := select v1 v3 arg1
  let c_1 : IVec S1 32 := constantI S1 32 4095#32
  let c_2 : IVec S_ 32 := constantI S_ 32 0#32
  let v5 : IVec S4x13824x1 32 := broadcastInDim S4x13824x1 ![] bcast_S_S4x13824x1 c_2
  let v6 : IVec S4x13824x1 1 := cmpi .sge v4 v5
  let v7 : IVec S1x1x1 32 := broadcastInDim S1x1x1 ![2] bcast_S1_S1x1x1_2 c_1
  let v8 : IVec S4x13824x1 32 := broadcastInDim S4x13824x1 ![0, 1, 2] bcast_S1x1x1_S4x13824x1_0_1_2 v7
  let v9 : IVec S4x13824x1 1 := cmpi .sle v4 v8
  let v10 : IVec S4x13824x1 1 := andi v6 v9
  let c_3 : IVec S_ 1 := constantI S_ 1 1#1
  let v11 : IVec S4x13824 1 := (fun x v => Host.reduce IntOp.andi x v reducesTo_S4x13824x1_S4x13824_d2 h_S_) v10 c_3
  let v12 : FVec F S4x13824x1 .f32 := (fun x i => Host.gather gather_S4x4096x1_S4x13824x1_S4x13824x1_2_1_0_0_1_2_111 x i) arg0 v4
  let v13 : IVec S4x13824x1 1 := broadcastInDim S4x13824x1 ![0, 1] bcast_S4x13824_S4x13824x1_0_1 v11
  let cst : FVec F S_ .f32 := constant S_ .f32 0x7FC00000#32
  let v14 : FVec F S4x13824x1 .f32 := broadcastInDim S4x13824x1 ![] bcast_S_S4x13824x1 cst
  let v15 : FVec F S4x13824x1 .f32 := select v13 v12 v14
  v15

def fn {F : FTy → Type} [FloatOps F] (main_arg0 : FVec F S4x4096x128 .f32) (main_arg1 : FVec F S4x4096x1 .f32) (main_arg2 : IVec S4x512x27 32) : IVec S_ 1 :=
  let main_v0 : IVec S4x13824x1 32 := shapeCast S4x13824x1 main_arg2 shapeCasts_S4x512x27_S4x13824x1
  let main_v1 : FVec F S4x13824x1 .f32 := fn_take_along_axis (F := F) main_arg1 main_v0
  let main_v2 : FVec F S4x512x27x1 .f32 := shapeCast S4x512x27x1 main_v1 shapeCasts_S4x13824x1_S4x512x27x1
  let main_c : IVec S_ 32 := constantI S_ 32 0#32
  let main_v3 : IVec S4x512x27 32 := broadcastInDim S4x512x27 ![] bcast_S_S4x512x27 main_c
  let main_v4 : IVec S4x512x27 1 := cmpi .sge main_arg2 main_v3
  let main_c_0 : IVec S_ 32 := constantI S_ 32 4096#32
  let main_v5 : IVec S4x512x27 32 := broadcastInDim S4x512x27 ![] bcast_S_S4x512x27 main_c_0
  let main_v6 : IVec S4x512x27 1 := cmpi .slt main_arg2 main_v5
  let main_v7 : IVec S4x512x27 1 := andi main_v4 main_v6
  let main_c_1 : IVec S_ 1 := constantI S_ 1 1#1
  let main_v8 : IVec S_ 1 := (fun x v => Host.reduce IntOp.andi x v reducesTo_S4x512x27_S_d0_1_2 h_S_) main_v7 main_c_1
  let main_cst : FVec F S_ .f32 := constant S_ .f32 0x00000000#32
  let main_v9 : FVec F S4x512x1 .f32 := (fun x v => Host.reduceAdd x v reducesTo_S4x512x27x1_S4x512x1_d2 h_S_) main_v2 main_cst
  let main_cst_2 : FVec F S_ .f32 := constant S_ .f32 0x00000000#32
  let main_v10 : FVec F S4x512x1 .f32 := broadcastInDim S4x512x1 ![] bcast_S_S4x512x1 main_cst_2
  let main_v11 : IVec S4x512x1 1 := cmpf .une main_v9 main_v10
  let main_c_3 : IVec S_ 1 := constantI S_ 1 1#1
  let main_v12 : IVec S_ 1 := (fun x v => Host.reduce IntOp.andi x v reducesTo_S4x512x1_S_d0_1_2 h_S_) main_v11 main_c_3
  let main_v13 : IVec S_ 1 := andi main_v8 main_v12
  main_v13
-- ==== Kernel.lean ====
abbrev S4x4096x128 : Shape := ⟨3, ![4, 4096, 128]⟩
abbrev S4x4096x1 : Shape := ⟨3, ![4, 4096, 1]⟩
abbrev S4x512x27 : Shape := ⟨3, ![4, 512, 27]⟩
abbrev S4 : Shape := ⟨1, ![4]⟩
abbrev S4x1x1 : Shape := ⟨3, ![4, 1, 1]⟩
abbrev S_ : Shape := ⟨0, ![]⟩
abbrev S16384x128 : Shape := ⟨2, ![16384, 128]⟩
abbrev S32x16x108 : Shape := ⟨3, ![32, 16, 108]⟩
abbrev S2048x128 : Shape := ⟨2, ![2048, 128]⟩
abbrev S16x108 : Shape := ⟨2, ![16, 108]⟩
abbrev S108x128 : Shape := ⟨2, ![108, 128]⟩
abbrev S4x128 : Shape := ⟨2, ![4, 128]⟩
abbrev S1x16x108 : Shape := ⟨3, ![1, 16, 108]⟩
abbrev S1x108 : Shape := ⟨2, ![1, 108]⟩
abbrev S108 : Shape := ⟨1, ![108]⟩
abbrev S1x16 : Shape := ⟨2, ![1, 16]⟩
abbrev S16 : Shape := ⟨1, ![16]⟩
abbrev S4x512x128 : Shape := ⟨3, ![4, 512, 128]⟩

abbrev nBuf : Table → Nat
  | .hbm => 16
  | .local .scVector .vmem => 4
  | _ => 0

abbrev bufTy : (tb : Table) → Fin (nBuf tb) → BufTy
  | .hbm, ⟨0, _⟩ => ⟨S4x4096x128, .f32⟩
  | .hbm, ⟨1, _⟩ => ⟨S4x4096x1, .f32⟩
  | .hbm, ⟨2, _⟩ => ⟨S4x512x27, .i32⟩
  | .hbm, ⟨3, _⟩ => ⟨S4x4096x128, .f32⟩
  | .hbm, ⟨4, _⟩ => ⟨S4, .i32⟩
  | .hbm, ⟨5, _⟩ => ⟨S4x1x1, .i32⟩
  | .hbm, ⟨6, _⟩ => ⟨S_, .i32⟩
  | .hbm, ⟨7, _⟩ => ⟨S4x1x1, .i32⟩
  | .hbm, ⟨8, _⟩ => ⟨S4x1x1, .i32⟩
  | .hbm, ⟨9, _⟩ => ⟨S4x512x27, .i32⟩
  | .hbm, ⟨10, _⟩ => ⟨S4x512x27, .i32⟩
  | .hbm, ⟨11, _⟩ => ⟨S16384x128, .f32⟩
  | .hbm, ⟨12, _⟩ => ⟨S16384x128, .f32⟩
  | .hbm, ⟨13, _⟩ => ⟨S32x16x108, .i32⟩
  | .hbm, ⟨14, _⟩ => ⟨S2048x128, .f32⟩
  | .hbm, ⟨15, _⟩ => ⟨S4x512x128, .f32⟩
  | .local .scVector .vmem, ⟨0, _⟩ => ⟨S16x108, .i32⟩
  | .local .scVector .vmem, ⟨1, _⟩ => ⟨S108x128, .f32⟩
  | .local .scVector .vmem, ⟨2, _⟩ => ⟨S108x128, .f32⟩
  | .local .scVector .vmem, ⟨3, _⟩ => ⟨S4x128, .f32⟩
  | _, _ => ⟨S4x4096x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v7_scv : Ref sig .scVector := ⟨.hbm, 11, rfl⟩
abbrev main_v8_scv : Ref sig .scVector := ⟨.hbm, 12, rfl⟩
abbrev main_v9_scv : Ref sig .scVector := ⟨.hbm, 13, rfl⟩
abbrev main_v10_scv : Ref sig .scVector := ⟨.hbm, 14, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_2_r0 : BitVec 32 := 0#32
  let c0_i32_3_r0 : BitVec 32 := 0#32
  ![v1.toNat, 0, 0]
@[reducible] def k0_t1_loop : Scf.Loop 32 :=
  let c0_i32_0 : BitVec 32 := 0#32
  let c16_i32 : BitVec 32 := 16#32
  let v3 : BitVec 32 := Scalar.addi c0_i32_0 c16_i32
  let c1_i32 : BitVec 32 := 1#32
  ⟨c0_i32_0, v3, c1_i32⟩
def k0_off2 (k0_t1 : Fin k0_t1_loop.trips) : Fin 2 → Nat :=
  let c0_i32_0 : BitVec 32 := 0#32
  let c1_i32 : BitVec 32 := 1#32
  let arg11 : BitVec 32 := Scf.iv c0_i32_0 c1_i32 k0_t1
  let c0_i32_2 : BitVec 32 := 0#32
  ![arg11.toNat, 0]
def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_0 : BitVec 32 := 0#32
  let c1_i32 : BitVec 32 := 1#32
  let arg11 : BitVec 32 := Scf.iv c0_i32_0 c1_i32 k0_t1
  let c4_i32_1914 : BitVec 32 := 4#32
  let v4976 : BitVec 32 := Scalar.muli arg11 c4_i32_1914
  let v4977 : BitVec 32 := Scalar.addi v2 v4976
  let c0_i32_1915_r1 : BitVec 32 := 0#32
  ![v4977.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x4096x128 : Shape := ⟨3, ![4, 4096, 128]⟩
abbrev S4x4096x1 : Shape := ⟨3, ![4, 4096, 1]⟩
abbrev S4x512x27 : Shape := ⟨3, ![4, 512, 27]⟩
abbrev S4x13824x1 : Shape := ⟨3, ![4, 13824, 1]⟩
abbrev S_ : Shape := ⟨0, ![]⟩
abbrev S1 : Shape := ⟨1, ![1]⟩
abbrev S1x1x1 : Shape := ⟨3, ![1, 1, 1]⟩
abbrev S4x13824 : Shape := ⟨2, ![4, 13824]⟩
abbrev S4x13824x128 : Shape := ⟨3, ![4, 13824, 128]⟩
abbrev S4x512x27x128 : Shape := ⟨4, ![4, 512, 27, 128]⟩
abbrev S4x512x27x1 : Shape := ⟨4, ![4, 512, 27, 1]⟩
abbrev S4x512x1 : Shape := ⟨3, ![4, 512, 1]⟩
abbrev S4x512x1x1 : Shape := ⟨4, ![4, 512, 1, 1]⟩
abbrev S4x512x128 : Shape := ⟨3, ![4, 512, 128]⟩

abbrev nBuf : Space → Nat
  | .hbm => 60
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S4x4096x1, .f32⟩
  | .hbm, ⟨2, _⟩ => ⟨S4x512x27, .i32⟩
  | .hbm, ⟨3, _⟩ => ⟨S4x13824x1, .i32⟩
  | .hbm, ⟨4, _⟩ => ⟨S_, .i32⟩
  | .hbm, ⟨5, _⟩ => ⟨S4x13824x1, .i32⟩
  | .hbm, ⟨6, _⟩ => ⟨S4x13824x1, .i1⟩
  | .hbm, ⟨7, _⟩ => ⟨S_, .i32⟩
  | .hbm, ⟨8, _⟩ => ⟨S4x13824x1, .i32⟩
  | .hbm, ⟨9, _⟩ => ⟨S4x13824x1, .i32⟩
  | .hbm, ⟨10, _⟩ => ⟨S4x13824x1, .i32⟩
  | .hbm, ⟨11, _⟩ => ⟨S1, .i32⟩
  | .hbm, ⟨12, _⟩ => ⟨S_, .i32⟩
  | .hbm, ⟨13, _⟩ => ⟨S4x13824x1, .i32⟩
  | .hbm, ⟨14, _⟩ => ⟨S4x13824x1, .i1⟩
  | .hbm, ⟨15, _⟩ => ⟨S1x1x1, .i32⟩
  | .hbm, ⟨16, _⟩ => ⟨S4x13824x1, .i32⟩
  | .hbm, ⟨17, _⟩ => ⟨S4x13824x1, .i1⟩
  | .hbm, ⟨18, _⟩ => ⟨S4x13824x1, .i1⟩
  | .hbm, ⟨19, _⟩ => ⟨S_, .i1⟩
  | .hbm, ⟨20, _⟩ => ⟨S4x13824, .i1⟩
  | .hbm, ⟨21, _⟩ => ⟨S4x13824x128, .f32⟩
  | .hbm, ⟨22, _⟩ => ⟨S4x13824x128, .i1⟩
  | .hbm, ⟨23, _⟩ => ⟨S_, .f32⟩
  | .hbm, ⟨24, _⟩ => ⟨S4x13824x128, .f32⟩
  | .hbm, ⟨25, _⟩ => ⟨S4x13824x128, .f32⟩
  | .hbm, ⟨26, _⟩ => ⟨S4x512x27x128, .f32⟩
  | .hbm, ⟨27, _⟩ => ⟨S4x13824x1, .i32⟩
  | .hbm, ⟨28, _⟩ => ⟨S_, .i32⟩
  | .hbm, ⟨29, _⟩ => ⟨S4x13824x1, .i32⟩
  | .hbm, ⟨30, _⟩ => ⟨S4x13824x1, .i1⟩
  | .hbm, ⟨31, _⟩ => ⟨S_, .i32⟩
  | .hbm, ⟨32, _⟩ => ⟨S4x13824x1, .i32⟩
  | .hbm, ⟨33, _⟩ => ⟨S4x13824x1, .i32⟩
  | .hbm, ⟨34, _⟩ => ⟨S4x13824x1, .i32⟩
  | .hbm, ⟨35, _⟩ => ⟨S1, .i32⟩
  | .hbm, ⟨36, _⟩ => ⟨S_, .i32⟩
  | .hbm, ⟨37, _⟩ => ⟨S4x13824x1, .i32⟩
  | .hbm, ⟨38, _⟩ => ⟨S4x13824x1, .i1⟩
  | .hbm, ⟨39, _⟩ => ⟨S1x1x1, .i32⟩
  | .hbm, ⟨40, _⟩ => ⟨S4x13824x1, .i32⟩
  | .hbm, ⟨41, _⟩ => ⟨S4x13824x1, .i1⟩
  | .hbm, ⟨42, _⟩ => ⟨S4x13824x1, .i1⟩
  | .hbm, ⟨43, _⟩ => ⟨S_, .i1⟩
  | .hbm, ⟨44, _⟩ => ⟨S4x13824, .i1⟩
  | .hbm, ⟨45, _⟩ => ⟨S4x13824x1, .f32⟩
  | .hbm, ⟨46, _⟩ => ⟨S4x13824x1, .i1⟩
  | .hbm, ⟨47, _⟩ => ⟨S_, .f32⟩
  | .hbm, ⟨48, _⟩ => ⟨S4x13824x1, .f32⟩
  | .hbm, ⟨49, _⟩ => ⟨S4x13824x1, .f32⟩
  | .hbm, ⟨50, _⟩ => ⟨S4x512x27x1, .f32⟩
  | .hbm, ⟨51, _⟩ => ⟨S_, .f32⟩
  | .hbm, ⟨52, _⟩ => ⟨S4x512x1, .f32⟩
  | .hbm, ⟨53, _⟩ => ⟨S4x512x1x1, .f32⟩
  | .hbm, ⟨54, _⟩ => ⟨S4x512x27x1, .f32⟩
  | .hbm, ⟨55, _⟩ => ⟨S4x512x27x1, .f32⟩
  | .hbm, ⟨56, _⟩ => ⟨S4x512x27x128, .f32⟩
  | .hbm, ⟨57, _⟩ => ⟨S4x512x27x128, .f32⟩
  | .hbm, ⟨58, _⟩ => ⟨S_, .f32⟩
  | .hbm, ⟨59, _⟩ => ⟨S4x512x128, .f32⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c_1 : Ref sig .tc := ⟨.hbm, 11, rfl⟩
abbrev main_call0_c_2 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_c_3 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_c_1 : Ref sig .tc := ⟨.hbm, 35, rfl⟩
abbrev main_call1_c_2 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_c_3 : Ref sig .tc := ⟨.hbm, 43, rfl⟩
abbrev main_call1_v11 : Ref sig .tc := ⟨.hbm, 44, rfl⟩
abbrev main_call1_v12 : Ref sig .tc := ⟨.hbm, 45, rfl⟩
abbrev main_call1_v13 : Ref sig .tc := ⟨.hbm, 46, rfl⟩
abbrev main_call1_cst : Ref sig .tc := ⟨.hbm, 47, rfl⟩
abbrev main_call1_v14 : Ref sig .tc := ⟨.hbm, 48, rfl⟩
abbrev main_v4 : Ref sig .tc := ⟨.hbm, 49, rfl⟩
abbrev main_v5 : Ref sig .tc := ⟨.hbm, 50, rfl⟩
abbrev main_cst : Ref sig .tc := ⟨.hbm, 51, rfl⟩
abbrev main_v6 : Ref sig .tc := ⟨.hbm, 52, rfl⟩
abbrev main_v7 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_cst_0 : Ref sig .tc := ⟨.hbm, 58, rfl⟩
abbrev main_v12 : Ref sig .tc := ⟨.hbm, 59, rfl⟩

abbrev nD : Nat := 1
abbrev τ : Topo := Topo.v7x

variable {F : FTy → Type} [FloatOps F]
-- ==== Select.lean ====
abbrev S4x4096x128 : Shape := ⟨3, ![4, 4096, 128]⟩
abbrev S4x4096x3 : Shape := ⟨3, ![4, 4096, 3]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x64 : Shape := ⟨2, ![1, 64]⟩
abbrev S1x1 : Shape := ⟨2, ![1, 1]⟩
abbrev S4x4096x1 : Shape := ⟨3, ![4, 4096, 1]⟩
abbrev S4x512x3 : Shape := ⟨3, ![4, 512, 3]⟩
abbrev S4x512x4096 : Shape := ⟨3, ![4, 512, 4096]⟩
abbrev S4x4096x512 : Shape := ⟨3, ![4, 4096, 512]⟩
abbrev S1x4096x128 : Shape := ⟨3, ![1, 4096, 128]⟩
abbrev S1x4096x3 : Shape := ⟨3, ![1, 4096, 3]⟩
abbrev S1x4096x1 : Shape := ⟨3, ![1, 4096, 1]⟩
abbrev S1x512x3 : Shape := ⟨3, ![1, 512, 3]⟩
abbrev S1x512x4096 : Shape := ⟨3, ![1, 512, 4096]⟩
abbrev S1x4096x512 : Shape := ⟨3, ![1, 4096, 512]⟩
abbrev S4096x128 : Shape := ⟨2, ![4096, 128]⟩
abbrev S4096x3 : Shape := ⟨2, ![4096, 3]⟩
abbrev S4096x64 : Shape := ⟨2, ![4096, 64]⟩
abbrev S4096x1 : Shape := ⟨2, ![4096, 1]⟩
abbrev S1x4096 : Shape := ⟨2, ![1, 4096]⟩
abbrev S512x4096 : Shape := ⟨2, ![512, 4096]⟩
abbrev S512x1 : Shape := ⟨2, ![512, 1]⟩
abbrev S4096 : Shape := ⟨1, ![4096]⟩
abbrev S3x4096 : Shape := ⟨2, ![3, 4096]⟩
abbrev S512 : Shape := ⟨1, ![512]⟩
abbrev S512x3 : Shape := ⟨2, ![512, 3]⟩
abbrev S1x512 : Shape := ⟨2, ![1, 512]⟩
abbrev S3x512 : Shape := ⟨2, ![3, 512]⟩
abbrev S4096x512 : Shape := ⟨2, ![4096, 512]⟩
abbrev S4x512x27 : Shape := ⟨3, ![4, 512, 27]⟩
abbrev S1x512x27 : Shape := ⟨3, ![1, 512, 27]⟩
abbrev S256x4096 : Shape := ⟨2, ![256, 4096]⟩
abbrev S256x32 : Shape := ⟨2, ![256, 32]⟩
abbrev S256 : Shape := ⟨1, ![256]⟩
abbrev S256x1 : Shape := ⟨2, ![256, 1]⟩
abbrev S256x27 : Shape := ⟨2, ![256, 27]⟩
abbrev S512x27 : Shape := ⟨2, ![512, 27]⟩
abbrev S4x4096x27 : Shape := ⟨3, ![4, 4096, 27]⟩
abbrev S1x4096x27 : Shape := ⟨3, ![1, 4096, 27]⟩
abbrev S2048x512 : Shape := ⟨2, ![2048, 512]⟩
abbrev S2048x32 : Shape := ⟨2, ![2048, 32]⟩
abbrev S2048 : Shape := ⟨1, ![2048]⟩
abbrev S2048x1 : Shape := ⟨2, ![2048, 1]⟩
abbrev S2048x27 : Shape := ⟨2, ![2048, 27]⟩
abbrev S4096x27 : Shape := ⟨2, ![4096, 27]⟩

abbrev nBuf : Space → Nat
  | .hbm => 16
  | .vmem => 28
  | .smem => 0
  | _ => 0

abbrev bufTy : (tb : Table) → Fin (tcTables nBuf tb) → BufTy
  | .hbm, ⟨0, _⟩ => ⟨S4x4096x128, .f32⟩
  | .hbm, ⟨1, _⟩ => ⟨S4x4096x3, .f32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S1x64, .f32⟩
  | .hbm, ⟨7, _⟩ => ⟨S1x1, .f32⟩
  | .hbm, ⟨8, _⟩ => ⟨S4x4096x1, .f32⟩
  | .hbm, ⟨9, _⟩ => ⟨S4x4096x128, .f32⟩
  | .hbm, ⟨10, _⟩ => ⟨S4x512x3, .f32⟩
  | .hbm, ⟨11, _⟩ => ⟨S4x512x4096, .f32⟩
  | .hbm, ⟨12, _⟩ => ⟨S4x4096x512, .f32⟩
  | .hbm, ⟨13, _⟩ => ⟨S4x512x27, .i32⟩
  | .hbm, ⟨14, _⟩ => ⟨S4x512x27, .i32⟩
  | .hbm, ⟨15, _⟩ => ⟨S4x4096x27, .i32⟩
  | .local _ .vmem, ⟨0, _⟩ => ⟨S1x4096x128, .f32⟩
  | .local _ .vmem, ⟨1, _⟩ => ⟨S1x4096x128, .f32⟩
  | .local _ .vmem, ⟨2, _⟩ => ⟨S1x4096x3, .f32⟩
  | .local _ .vmem, ⟨3, _⟩ => ⟨S1x4096x3, .f32⟩
  | .local _ .vmem, ⟨4, _⟩ => ⟨S128x64, .f32⟩
  | .local _ .vmem, ⟨5, _⟩ => ⟨S1x64, .f32⟩
  | .local _ .vmem, ⟨6, _⟩ => ⟨S64x1, .f32⟩
  | .local _ .vmem, ⟨7, _⟩ => ⟨S1x1, .f32⟩
  | .local _ .vmem, ⟨8, _⟩ => ⟨S1x4096x1, .f32⟩
  | .local _ .vmem, ⟨9, _⟩ => ⟨S1x4096x1, .f32⟩
  | .local _ .vmem, ⟨10, _⟩ => ⟨S1x4096x128, .f32⟩
  | .local _ .vmem, ⟨11, _⟩ => ⟨S1x4096x128, .f32⟩
  | .local _ .vmem, ⟨12, _⟩ => ⟨S1x512x3, .f32⟩
  | .local _ .vmem, ⟨13, _⟩ => ⟨S1x512x3, .f32⟩
  | .local _ .vmem, ⟨14, _⟩ => ⟨S1x512x4096, .f32⟩
  | .local _ .vmem, ⟨15, _⟩ => ⟨S1x512x4096, .f32⟩
  | .local _ .vmem, ⟨16, _⟩ => ⟨S1x4096x512, .f32⟩
  | .local _ .vmem, ⟨17, _⟩ => ⟨S1x4096x512, .f32⟩
  | .local _ .vmem, ⟨18, _⟩ => ⟨S1x512x4096, .f32⟩
  | .local _ .vmem, ⟨19, _⟩ => ⟨S1x512x4096, .f32⟩
  | .local _ .vmem, ⟨20, _⟩ => ⟨S1x512x27, .i32⟩
  | .local _ .vmem, ⟨21, _⟩ => ⟨S1x512x27, .i32⟩
  | .local _ .vmem, ⟨22, _⟩ => ⟨S1x512x27, .i32⟩
  | .local _ .vmem, ⟨23, _⟩ => ⟨S1x512x27, .i32⟩
  | .local _ .vmem, ⟨24, _⟩ => ⟨S1x4096x512, .f32⟩
  | .local _ .vmem, ⟨25, _⟩ => ⟨S1x4096x512, .f32⟩
  | .local _ .vmem, ⟨26, _⟩ => ⟨S1x4096x27, .i32⟩
  | .local _ .vmem, ⟨27, _⟩ => ⟨S1x4096x27, .i32⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev main_v3_0 : Ref sig .tc := ⟨.hbm, 13, rfl⟩
abbrev main_v3_1 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc2_sem0_0 : DmaSem sig := 24
abbrev cc2_sem0_1 : DmaSem sig := 25
abbrev cc2_sem1_0 : DmaSem sig := 26
abbrev cc2_sem1_1 : DmaSem sig := 27

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x4096x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x3 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4096x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![4], ![false]⟩

@[reducible] def k1_t1_loop : Scf.Loop 32 :=
  let c0_i32_2 : BitVec 32 := 0#32
  let c27_i32 : BitVec 32 := 27#32
  let v7 : BitVec 32 := Scalar.addi c0_i32_2 c27_i32
  let c1_i32 : BitVec 32 := 1#32
  ⟨c0_i32_2, v7, c1_i32⟩
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x27 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512x27 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

@[reducible] def k2_t1_loop : Scf.Loop 32 :=
  let c0_i32_2 : BitVec 32 := 0#32
  let c27_i32 : BitVec 32 := 27#32
  let v7 : BitVec 32 := Scalar.addi c0_i32_2 c27_i32
  let c1_i32 : BitVec 32 := 1#32
  ⟨c0_i32_2, v7, c1_i32⟩
def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x4096x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x4096x27 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]
-- ==== SelectReferenceIdeal.lean ====
abbrev S4x4096x128 : Shape := ⟨3, ![4, 4096, 128]⟩
abbrev S4x4096x3 : Shape := ⟨3, ![4, 4096, 3]⟩
abbrev S128x64 : Shape := ⟨2, ![128, 64]⟩
abbrev S64 : Shape := ⟨1, ![64]⟩
abbrev S64x1 : Shape := ⟨2, ![64, 1]⟩
abbrev S1 : Shape := ⟨1, ![1]⟩
abbrev S4x4096x64 : Shape := ⟨3, ![4, 4096, 64]⟩
abbrev S1x1x64 : Shape := ⟨3, ![1, 1, 64]⟩
abbrev S4x4096x1 : Shape := ⟨3, ![4, 4096, 1]⟩
abbrev S1x1x1 : Shape := ⟨3, ![1, 1, 1]⟩
abbrev S_ : Shape := ⟨0, ![]⟩
abbrev S4x4096 : Shape := ⟨2, ![4, 4096]⟩
abbrev S4x512 : Shape := ⟨2, ![4, 512]⟩
abbrev S4x512x1 : Shape := ⟨3, ![4, 512, 1]⟩
abbrev S4x512x3 : Shape := ⟨3, ![4, 512, 3]⟩
abbrev S4x512x1x3 : Shape := ⟨4, ![4, 512, 1, 3]⟩
abbrev S4x1x4096 : Shape := ⟨3, ![4, 1, 4096]⟩
abbrev S4x512x4096 : Shape := ⟨3, ![4, 512, 4096]⟩
abbrev S4x512x27 : Shape := ⟨3, ![4, 512, 27]⟩
abbrev S4x1x512 : Shape := ⟨3, ![4, 1, 512]⟩
abbrev S4x4096x512 : Shape := ⟨3, ![4, 4096, 512]⟩
abbrev S4x4096x27 : Shape := ⟨3, ![4, 4096, 27]⟩

abbrev nBuf : Space → Nat
  | .hbm => 92
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S4x4096x3, .f32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S4x4096x64, .f32⟩
  | .hbm, ⟨7, _⟩ => ⟨S1x1x64, .f32⟩
  | .hbm, ⟨8, _⟩ => ⟨S4x4096x64, .f32⟩
  | .hbm, ⟨9, _⟩ => ⟨S4x4096x64, .f32⟩
  | .hbm, ⟨10, _⟩ => ⟨S4x4096x64, .f32⟩
  | .hbm, ⟨11, _⟩ => ⟨S4x4096x1, .f32⟩
  | .hbm, ⟨12, _⟩ => ⟨S1x1x1, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096, .f32⟩
  | .hbm, ⟨24, _⟩ => ⟨S4x4096, .f32⟩
  | .hbm, ⟨25, _⟩ => ⟨S4x4096, .i32⟩
  | .hbm, ⟨26, _⟩ => ⟨S4x4096, .f32⟩
  | .hbm, ⟨27, _⟩ => ⟨S4x4096, .i32⟩
  | .hbm, ⟨28, _⟩ => ⟨S4x512, .i32⟩
  | .hbm, ⟨29, _⟩ => ⟨S4x512x1, .i32⟩
  | .hbm, ⟨30, _⟩ => ⟨S_, .i32⟩
  | .hbm, ⟨31, _⟩ => ⟨S4x512x1, .i32⟩
  | .hbm, ⟨32, _⟩ => ⟨S4x512x1, .i1⟩
  | .hbm, ⟨33, _⟩ => ⟨S_, .i32⟩
  | .hbm, ⟨34, _⟩ => ⟨S4x512x1, .i32⟩
  | .hbm, ⟨35, _⟩ => ⟨S4x512x1, .i32⟩
  | .hbm, ⟨36, _⟩ => ⟨S4x512x1, .i32⟩
  | .hbm, ⟨37, _⟩ => ⟨S1, .i32⟩
  | .hbm, ⟨38, _⟩ => ⟨S_, .i32⟩
  | .hbm, ⟨39, _⟩ => ⟨S4x512x1, .i32⟩
  | .hbm, ⟨40, _⟩ => ⟨S4x512x1, .i1⟩
  | .hbm, ⟨41, _⟩ => ⟨S1x1x1, .i32⟩
  | .hbm, ⟨42, _⟩ => ⟨S4x512x1, .i32⟩
  | .hbm, ⟨43, _⟩ => ⟨S4x512x1, .i1⟩
  | .hbm, ⟨44, _⟩ => ⟨S4x512x1, .i1⟩
  | .hbm, ⟨45, _⟩ => ⟨S_, .i1⟩
  | .hbm, ⟨46, _⟩ => ⟨S4x512, .i1⟩
  | .hbm, ⟨47, _⟩ => ⟨S4x512x3, .f32⟩
  | .hbm, ⟨48, _⟩ => ⟨S4x512x3, .i1⟩
  | .hbm, ⟨49, _⟩ => ⟨S_, .f32⟩
  | .hbm, ⟨50, _⟩ => ⟨S4x512x3, .f32⟩
  | .hbm, ⟨51, _⟩ => ⟨S4x512x3, .f32⟩
  | .hbm, ⟨52, _⟩ => ⟨S4x512x1x3, .f32⟩
  | .hbm, ⟨53, _⟩ => ⟨S4x512x3, .f32⟩
  | .hbm, ⟨54, _⟩ => ⟨S4x512x3, .f32⟩
  | .hbm, ⟨55, _⟩ => ⟨S_, .f32⟩
  | .hbm, ⟨56, _⟩ => ⟨S4x512, .f32⟩
  | .hbm, ⟨57, _⟩ => ⟨S4x512x1, .f32⟩
  | .hbm, ⟨58, _⟩ => ⟨S4x4096x3, .f32⟩
  | .hbm, ⟨59, _⟩ => ⟨S_, .f32⟩
  | .hbm, ⟨60, _⟩ => ⟨S4x4096, .f32⟩
  | .hbm, ⟨61, _⟩ => ⟨S4x1x4096, .f32⟩
  | .hbm, ⟨62, _⟩ => ⟨S4x512x4096, .f32⟩
  | .hbm, ⟨63, _⟩ => ⟨S4x512x4096, .f32⟩
  | .hbm, ⟨64, _⟩ => ⟨S4x512x4096, .f32⟩
  | .hbm, ⟨65, _⟩ => ⟨S4x512x4096, .f32⟩
  | .hbm, ⟨66, _⟩ => ⟨S_, .f32⟩
  | .hbm, ⟨67, _⟩ => ⟨S4x512x4096, .f32⟩
  | .hbm, ⟨68, _⟩ => ⟨S4x512x4096, .f32⟩
  | .hbm, ⟨69, _⟩ => ⟨S4x512x4096, .f32⟩
  | .hbm, ⟨70, _⟩ => ⟨S4x512x4096, .f32⟩
  | .hbm, ⟨71, _⟩ => ⟨S4x512x27, .f32⟩
  | .hbm, ⟨72, _⟩ => ⟨S4x512x27, .i32⟩
  | .hbm, ⟨73, _⟩ => ⟨S4x4096x3, .f32⟩
  | .hbm, ⟨74, _⟩ => ⟨S_, .f32⟩
  | .hbm, ⟨75, _⟩ => ⟨S4x4096, .f32⟩
  | .hbm, ⟨76, _⟩ => ⟨S4x4096x1, .f32⟩
  | .hbm, ⟨77, _⟩ => ⟨S4x512x3, .f32⟩
  | .hbm, ⟨78, _⟩ => ⟨S_, .f32⟩
  | .hbm, ⟨79, _⟩ => ⟨S4x512, .f32⟩
  | .hbm, ⟨80, _⟩ => ⟨S4x1x512, .f32⟩
  | .hbm, ⟨81, _⟩ => ⟨S4x4096x512, .f32⟩
  | .hbm, ⟨82, _⟩ => ⟨S4x4096x512, .f32⟩
  | .hbm, ⟨83, _⟩ => ⟨S4x4096x512, .f32⟩
  | .hbm, ⟨84, _⟩ => ⟨S4x4096x512, .f32⟩
  | .hbm, ⟨85, _⟩ => ⟨S_, .f32⟩
  | .hbm, ⟨86, _⟩ => ⟨S4x4096x512, .f32⟩
  | .hbm, ⟨87, _⟩ => ⟨S4x4096x512, .f32⟩
  | .hbm, ⟨88, _⟩ => ⟨S4x4096x512, .f32⟩
  | .hbm, ⟨89, _⟩ => ⟨S4x4096x512, .f32⟩
  | .hbm, ⟨90, _⟩ => ⟨S4x4096x27, .f32⟩
  | .hbm, ⟨91, _⟩ => ⟨S4x4096x27, .i32⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_1 : Ref sig .tc := ⟨.hbm, 37, rfl⟩
abbrev main_call1_c_2 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_c_3 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_cst : Ref sig .tc := ⟨.hbm, 49, rfl⟩
abbrev main_call1_v14 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_1 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_cst_2 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst_3 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_values : Ref sig .tc := ⟨.hbm, 71, rfl⟩
abbrev main_indices : Ref sig .tc := ⟨.hbm, 72, rfl⟩
abbrev main_v37 : Ref sig .tc := ⟨.hbm, 73, rfl⟩
abbrev main_cst_4 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_5 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_cst_6 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_values_7 : Ref sig .tc := ⟨.hbm, 90, rfl⟩
abbrev main_indices_8 : Ref sig .tc := ⟨.hbm, 91, rfl⟩

abbrev nD : Nat := 1
abbrev τ : Topo := Topo.v7x

variable {F : FTy → Type} [FloatOps F]
-- ==== Proof.Body.lean ====
/-
  The body of the SparseCore tile kernel, written over the program's own operations as loops over lists in place of the
  unrolled statements: the reads of a query's twenty-seven score vectors, their normalised weights, and for each of the
  eight lane groups the weighted sum of the twenty-seven gathered feature vectors.
-/
module

public import proofs.«01_k».proof.Kernel
public import proofs.«01_k».proof.Proof.Gen.Kernel

@[expose] public section

noncomputable section

namespace Cert.Proof.KernelBody

open Idealize.ShloMosaic Idealize.SL.Sem
open Cert.Kernel
open Cert.Kernel.Facts₀

variable {F : FTy → Type} [FloatOps F]

/-- A sixteen-lane read of a 108 × 128 buffer stays inside it. -/
theorem inbRows (r c : ℕ) : ∀ a, (![r % 108, (c % 8) * 16] : Fin 2 → Nat) a + S1x16.size a ≤ S108x128.size a := by
  intro a
  have h1 := Nat.mod_lt r (show 108 > 0 by decide)
  have h2 := Nat.mod_lt c (show 8 > 0 by decide)
  match a with
  | ⟨0, _⟩ => change r % 108 + 1 ≤ 108; omega
  | ⟨1, _⟩ => change c % 8 * 16 + 16 ≤ 128; omega

/-- A sixteen-lane access of the 4 × 128 output buffer stays inside it. -/
theorem inbOut (r c : ℕ) : ∀ a, (![r % 4, (c % 8) * 16] : Fin 2 → Nat) a + S1x16.size a ≤ S4x128.size a := by
  intro a
  have h1 := Nat.mod_lt r (show 4 > 0 by decide)
  have h2 := Nat.mod_lt c (show 8 > 0 by decide)
  match a with
  | ⟨0, _⟩ => change r % 4 + 1 ≤ 4; omega
  | ⟨1, _⟩ => change c % 8 * 16 + 16 ≤ 128; omega

/-- The sixteen lanes at row `r`, lane group `c` of a gathered buffer. -/
abbrev rowRect (r c : ℕ) : Rect S108x128 := Rect.unit (s := S108x128) ![r % 108, (c % 8) * 16] S1x16.size (inbRows r c)
/-- The sixteen lanes at row `r`, lane group `c` of the output buffer. -/
abbrev outRect (r c : ℕ) : Rect S4x128 := Rect.unit (s := S4x128) ![r % 4, (c % 8) * 16] S1x16.size (inbOut r c)

/-- The effects of the tile at `i`. -/
abbrev Eff (F : FTy → Type) (i : grid0.Coords) : Type → Type :=
  TpuEff nD τ sig (Elt F) Λ₀ (.scVector ((i 0).castLE hcore0) ((i 1).castLE hsub0))

/-- The rows of query `q` of a chunk. -/
abbrev rows27 (q : ℕ) : List ℕ :=
  [q*27+0, q*27+1, q*27+2, q*27+3, q*27+4, q*27+5, q*27+6, q*27+7, q*27+8, q*27+9, q*27+10, q*27+11, q*27+12, q*27+13, q*27+14,
   q*27+15, q*27+16, q*27+17, q*27+18, q*27+19, q*27+20, q*27+21, q*27+22, q*27+23, q*27+24, q*27+25, q*27+26]

variable {i : grid0.Coords}

/-- One vector of sixteen lanes read. -/
def ld (a : Memref sig .scVector .vmem S108x128 .f32) (r c : ℕ) {α : Type} (k : FVec F S16 .f32 → Prog (Eff F i) α) : Prog (Eff F i) α :=
  .op (.load a (rowRect r c).toLoadRect (View.loadsAt_vmem h_S1x16)) fun v => k (shapeCast S16 v shapeCasts_S1x16_S16)

/-- The vectors at rows `rs` of the scores read in turn. -/
def lds (a : Memref sig .scVector .vmem S108x128 .f32) : List ℕ → {α : Type} → (List (FVec F S16 .f32) → Prog (Eff F i) α) → Prog (Eff F i) α
  | [], _, k => k []
  | r :: rs, _, k => ld a r 0 fun v => lds a rs fun vs => k (v :: vs)

/-- The sum of a non-empty list of vectors, from the left. -/
def vsum : List (FVec F S16 .f32) → FVec F S16 .f32
  | [] => broadcast S16 (Scalar.ofBits .f32 0#32)
  | v :: vs => vs.foldl addf v

/-- The weights: each score times one over the sum of them. -/
def weights (vs : List (FVec F S16 .f32)) : List (FVec F S16 .f32) :=
  vs.map fun s => mulf s (divf (broadcast S16 (Scalar.ofBits .f32 0x3F800000#32)) (vsum vs))

/-- The weighted sum accumulated over the remaining rows. -/
def acc (a : Memref sig .scVector .vmem S108x128 .f32) (c : ℕ) : List (FVec F S16 .f32) → List ℕ → FVec F S16 .f32 → {α : Type} → (FVec F S16 .f32 → Prog (Eff F i) α) → Prog (Eff F i) α
  | w :: ws, r :: rs, x, _, k => ld a r c fun v => acc a c ws rs (addf x (mulf w v)) k
  | _, _, x, _, k => k x

/-- One lane group of one query: the weighted sum, stored. -/
def seg (a : Memref sig .scVector .vmem S108x128 .f32) (o : Memref sig .scVector .vmem S4x128 .f32) (q c : ℕ) {α : Type}
    (k : Prog (Eff F i) α) : List (FVec F S16 .f32) → List ℕ → Prog (Eff F i) α
  | w :: ws, r :: rs => ld a r c fun v => acc a c ws rs (mulf w v) fun x =>
      .op (.load o (outRect q c).toLoadRect (View.loadsAt_vmem h_S1x16)) fun _ =>
      .op (.store o (outRect q c) (shapeCast S1x16 x shapeCasts_S16_S1x16) Finset.univ (View.stores_vmem_bits_univ h_S1x16 rfl) (.inl rfl)) fun _ => k
  | _, _ => k

/-- The lane groups of one query in turn. -/
def segs (a : Memref sig .scVector .vmem S108x128 .f32) (o : Memref sig .scVector .vmem S4x128 .f32) (q : ℕ) (ws : List (FVec F S16 .f32)) :
    List ℕ → {α : Type} → Prog (Eff F i) α → Prog (Eff F i) α
  | [], _, k => k
  | c :: cs, _, k => seg a o q c (segs a o q ws cs k) ws (rows27 q)

/-- One query: its weights, then its lane groups. -/
def query (a s : Memref sig .scVector .vmem S108x128 .f32) (o : Memref sig .scVector .vmem S4x128 .f32) (q : ℕ) {α : Type} (k : Prog (Eff F i) α) : Prog (Eff F i) α :=
  lds s (rows27 q) fun vs => segs a o q (weights vs) [0, 1, 2, 3, 4, 5, 6, 7] k

/-- The queries of one chunk in turn. -/
def queries (a s : Memref sig .scVector .vmem S108x128 .f32) (o : Memref sig .scVector .vmem S4x128 .f32) :
    List ℕ → {α : Type} → Prog (Eff F i) α → Prog (Eff F i) α
  | [], _, k => k
  | q :: qs, _, k => query a s o q (queries a s o qs k)

section Chunk

variable (i)
variable (arg2 arg3 : Memref sig .scVector .hbm S16384x128 .f32) (arg5 : Memref sig .scVector .hbm S2048x128 .f32)
  (arg6 : Memref sig .scVector .vmem S16x108 .i32) (arg7 : Memref sig .scVector .vmem S108x128 .f32) (harg7 : arg7.IsWhole)
  (arg8 : Memref sig .scVector .vmem S108x128 .f32) (harg8 : arg8.IsWhole) (arg9 : Memref sig .scVector .vmem S4x128 .f32) (harg9 : arg9.IsWhole)
  (arg10 : DmaSems sig S_) (o4 : DmaSems sig S_) (k0_t1 : Fin k0_t1_loop.trips)

/-- Row `k0_t1` of the index scratch. -/
abbrev idxRow : Memref sig .scVector .vmem S108 .i32 :=
  (arg6.slice (Rect.unit (s := S16x108) (k0_off2 k0_t1) S1x108.size (Facts₀.k0_off2_inb k0_t1)) (fun _ => rfl)).squeeze S108 squeezes_S1x108_S108
/-- A table, whole. -/
abbrev table (a : Memref sig .scVector .hbm S16384x128 .f32) : Memref sig .scVector .hbm S16384x128 .f32 :=
  a.slice (Rect.unit (s := S16384x128) ![0, 0] S16384x128.size inb_S16384x128_S16384x128_0_0) (fun _ => rfl)
/-- The four output rows of chunk `k0_t1`. -/
abbrev outRows : Memref sig .scVector .hbm S4x128 .f32 :=
  arg5.slice (Rect.unit (s := S2048x128) (k0_off3 i k0_t1) S4x128.size (Facts₀.k0_off3_inb i k0_t1)) (fun _ => rfl)

/-- One chunk: the two gathers, their waits, the four queries, and the copy out. -/
def chunk : Prog (Eff F i) PUnit :=
  SparseCore.enqueueIndirectGather rfl (table arg2) arg7 gathers_S16384x128_S108x128 (idxRow arg6 k0_t1) rfl arg10.sem (View.wordExact_bits rfl) rfl (Or.inl rfl) >>= fun _ =>
  SparseCore.enqueueIndirectGather rfl (table arg3) arg8 gathers_S16384x128_S108x128 (idxRow arg6 k0_t1) rfl arg10.sem (View.wordExact_bits rfl) rfl (Or.inl rfl) >>= fun _ =>
  SparseCore.waitIndirectGather arg10.sem (table arg2) arg7 (View.wordExact_bits rfl) harg7.wordExact >>= fun _ =>
  SparseCore.waitIndirectGather arg10.sem (table arg3) arg8 (View.wordExact_bits rfl) harg8.wordExact >>= fun _ =>
  queries arg7 arg8 arg9 [0, 1, 2, 3] <|
  .op (.enqueueDma arg9 (.here (outRows i arg5 k0_t1)) (.dma o4.sem) harg9.wordExact (View.wordExact_bits rfl) ⟨Or.inl rfl, trivial⟩) fun _ =>
  .op (.waitDma2 o4.sem arg9 (outRows i arg5 k0_t1) harg9.wordExact (View.wordExact_bits rfl)) fun _ => .ret ⟨⟩

end Chunk

/-- The tile's whole program: the fetch of its index rows, then its chunks. -/
def tile (i : grid0.Coords) (arg2 : Memref sig .scVector .hbm S16384x128 .f32) (arg3 : Memref sig .scVector .hbm S16384x128 .f32)
    (arg4 : Memref sig .scVector .hbm S32x16x108 .i32) (arg5 : Memref sig .scVector .hbm S2048x128 .f32)
    (arg6 : Memref sig .scVector .vmem S16x108 .i32) (harg6 : arg6.IsWhole) (arg7 : Memref sig .scVector .vmem S108x128 .f32) (harg7 : arg7.IsWhole)
    (arg8 : Memref sig .scVector .vmem S108x128 .f32) (harg8 : arg8.IsWhole) (arg9 : Memref sig .scVector .vmem S4x128 .f32) (harg9 : arg9.IsWhole)
    (arg10 v4_r0 o4 : DmaSems sig S_) : Prog (Eff F i) PUnit :=
  .op (.enqueueDma ((arg4.slice (Rect.unit (s := S32x16x108) (k0_off1 i) S1x16x108.size (Facts₀.k0_off1_inb i)) (fun _ => rfl)).squeeze S16x108 squeezes_S1x16x108_S16x108)
    (.here arg6) (.dma v4_r0.sem) ((View.wordExact_bits rfl).reshape _ _) harg6.wordExact ⟨Or.inl rfl, trivial⟩) fun _ =>
  .op (.waitDma2 v4_r0.sem ((arg4.slice (Rect.unit (s := S32x16x108) (k0_off1 i) S1x16x108.size (Facts₀.k0_off1_inb i)) (fun _ => rfl)).squeeze S16x108 squeezes_S1x16x108_S16x108)
    arg6 ((View.wordExact_bits rfl).reshape _ _) harg6.wordExact) fun _ =>
  (Scf.Loop.for k0_t1_loop Facts₀.k0_t1_ok ⟨⟩ fun k0_t1 _ => chunk i arg2 arg3 arg5 arg6 arg7 harg7 arg8 harg8 arg9 harg9 arg10 o4 k0_t1) >>= fun _ => .ret ⟨⟩

end Cert.Proof.KernelBody

end
-- ==== Proof.BodyEq.lean ====
module

public import proofs.«01_k».proof.Proof.Body

@[expose] public section

noncomputable section

namespace Cert.Proof.KernelBody

open Idealize.ShloMosaic Idealize.SL.Sem
open Cert.Kernel

variable {F : FTy → Type} [FloatOps F]

set_option maxRecDepth 100000 in
set_option maxHeartbeats 4000000 in
/-- The kernel's unrolled function is `tile`. -/
theorem body_eq (i : grid0.Coords) (arg2 harg2 arg3 harg3 arg4 harg4 arg5 harg5 arg6 harg6 arg7 harg7 arg8 harg8 arg9 harg9 arg10 v4_r0 o4) :
    cc0__sc_attn_body (F := F) i arg2 harg2 arg3 harg3 arg4 harg4 arg5 harg5 arg6 harg6 arg7 harg7 arg8 harg8 arg9 harg9 arg10 v4_r0 o4
      = tile i arg2 arg3 arg4 arg5 arg6 harg6 arg7 harg7 arg8 harg8 arg9 harg9 arg10 v4_r0 o4 := rfl

end Cert.Proof.KernelBody

end
-- ==== Proof.Queries.lean ====
/-
  What the four queries of a chunk compute. Holding the two gathered buffers and the output buffer, the tile's reads,
  sums, products and stores run without fault and leave in the output buffer, at query `q` and column `x`, the weighted
  sum of the query's twenty-seven feature rows at that column (`chunkOut`): every other buffer is as it was.
-/
module

public import Idealize.ShloMosaic.Lib.Pipeline.Kit
public import Idealize.ShloMosaic.Lib.Tactic
public import Idealize.ShloMosaic.Lib.Pipeline.Value
public import Idealize.ShloMosaic.Lib.Transfers
public import proofs.«01_k».proof.Proof.Body

@[expose] public section

noncomputable section

namespace Cert.Proof.KernelBody

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Kernel
open Cert.Kernel.Facts₀

variable {F : FTy → Type} [FloatOps F]

/-! ## The values -/

/-- A gathered buffer's contents. -/
abbrev Rows (F : FTy → Type) : Type := S108x128.Idx → Elt F .f32

/-- Row `r`, column `x` of a gathered buffer. -/
abbrev rowIx (r x : ℕ) : S108x128.Idx := fun
  | 0 => ⟨r % 108, Nat.mod_lt _ (by decide)⟩
  | 1 => ⟨x % 128, Nat.mod_lt _ (by decide)⟩

/-- The sixteen lanes at row `r`, lane group `c` of a gathered buffer. -/
def vecAt (A : Rows F) (r c : ℕ) : FVec F S16 .f32 := fun l => A (rowIx r ((c % 8) * 16 + (l 0).val))

/-- The weighted sum continued over the remaining weights and vectors. -/
def accV : List (FVec F S16 .f32) → List (FVec F S16 .f32) → FVec F S16 .f32 → FVec F S16 .f32
  | w :: ws, v :: vs, x => accV ws vs (addf x (mulf w v))
  | _, _, x => x

/-- The weighted sum of a non-empty list of vectors. -/
def wsumV : List (FVec F S16 .f32) → List (FVec F S16 .f32) → FVec F S16 .f32
  | w :: ws, v :: vs => accV ws vs (mulf w v)
  | _, _ => broadcast S16 (Scalar.ofBits .f32 0#32)

/-- Lane group `c` of query `q`'s result, of feature rows `A` and score rows `B`. -/
def queryV (A B : Rows F) (q c : ℕ) : FVec F S16 .f32 :=
  wsumV (weights ((rows27 q).map fun r => vecAt B r 0)) ((rows27 q).map fun r => vecAt A r c)

/-- The lane of a column. -/
abbrev laneOf (x : ℕ) : S16.Idx := fun | 0 => ⟨x % 16, Nat.mod_lt _ (by decide)⟩

/-- The four queries' results, of feature rows `A` and score rows `B`. -/
def chunkOut (A B : Rows F) : S4x128.Idx → Elt F .f32 := fun x => queryV A B (x 0).val ((x 1).val / 16) (laneOf (x 1).val)

/-! ## The program's runs -/

local notation "aV" => (Memref.whole Cert.Kernel.cc0_scratch1 : Memref Cert.Kernel.sig Kind.scVector Space.vmem Cert.Kernel.S108x128 EltTy.f32)
local notation "bV" => (Memref.whole Cert.Kernel.cc0_scratch2 : Memref Cert.Kernel.sig Kind.scVector Space.vmem Cert.Kernel.S108x128 EltTy.f32)
local notation "oV" => (Memref.whole Cert.Kernel.cc0_scratch3 : Memref Cert.Kernel.sig Kind.scVector Space.vmem Cert.Kernel.S4x128 EltTy.f32)

/-- A sixteen-lane read of the feature buffer. -/
theorem read_a (A : Rows F) (r c : ℕ) (h : S1x16.ShapeCasts S16) :
    shapeCast S16 (((aV).access (rowRect r c)).read (Elt F) A) h = vecAt A r c := by
  funext l
  refine (shapeCast_dropUnit_apply ![16] _ h l).trans ?_
  rw [View.read_apply]
  refine (cast_eq _ _).trans (congrArg A (funext fun a => Fin.ext ?_))
  have hl : (l 0).val < 16 := (l 0).isLt
  match a with
  | ⟨0, _⟩ => change r % 108 + 1 * 0 = r % 108; omega
  | ⟨1, _⟩ => change c % 8 * 16 + 1 * (l 0).val = (c % 8 * 16 + (l 0).val) % 128; omega

/-- A sixteen-lane read of the score buffer. -/
theorem read_b (B : Rows F) (r c : ℕ) (h : S1x16.ShapeCasts S16) :
    shapeCast S16 (((bV).access (rowRect r c)).read (Elt F) B) h = vecAt B r c := read_a B r c h

/-- The store of one lane group of one query. -/
def stepSeg (A B : Rows F) (f : S4x128.Idx → Elt F .f32) (p : ℕ × ℕ) : S4x128.Idx → Elt F .f32 :=
  ((oV).access (outRect p.1 p.2)).write (Elt F) f (shapeCast S1x16 (queryV A B p.1 p.2) shapeCasts_S16_S1x16) Finset.univ

/-- That store puts the result at its row and lane group and keeps the rest. -/
theorem stepSeg_apply (A B : Rows F) (f : S4x128.Idx → Elt F .f32) {q c : ℕ} (hq : q < 4) (hc : c < 8) (x : S4x128.Idx) :
    stepSeg A B f (q, c) x = if (x 0).val = q ∧ (x 1).val / 16 = c then chunkOut A B x else f x := by
  have h1 : (x 1).val < 128 := (x 1).isLt
  unfold stepSeg
  split
  · rename_i h
    obtain ⟨rfl, rfl⟩ := h
    let y : S1x16.Idx := fun | 0 => ⟨0, Nat.one_pos⟩ | 1 => ⟨(x 1).val % 16, Nat.mod_lt _ (by decide)⟩
    have hx : x = ((oV).access (outRect (x 0).val ((x 1).val / 16))).emb y := by
      funext a; refine Fin.ext ?_
      match a with
      | ⟨0, _⟩ => change (x 0).val = (x 0).val % 4 + 1 * 0; omega
      | ⟨1, _⟩ => change (x 1).val = (x 1).val / 16 % 8 * 16 + 1 * ((x 1).val % 16); omega
    refine (congrArg _ hx).trans ?_
    refine (View.write_emb_of_mem _ _ (Finset.mem_univ y)).trans ?_
    refine (cast_eq _ _).trans ?_
    refine (shapeCast_addUnit_apply ![16] _ shapeCasts_S16_S1x16 y).trans ?_
    unfold chunkOut
    congr 1
    funext a; match a with | ⟨0, _⟩ => rfl
  · rename_i h
    refine View.write_of_not_mem _ _ _ fun hm => h ?_
    rw [View.setOn_univ] at hm
    obtain ⟨y, -, hy⟩ := Finset.mem_map.mp hm
    have e0 : (x 0).val = q % 4 + 1 * (y 0).val := (congrArg (fun z : S4x128.Idx => (z 0).val) hy).symm
    have e1 : (x 1).val = c % 8 * 16 + 1 * (y 1).val := (congrArg (fun z : S4x128.Idx => (z 1).val) hy).symm
    have y0 : (y 0).val < 1 := (y 0).isLt
    have y1 : (y 1).val < 16 := (y 1).isLt
    omega

/-- The stores of a list of lane groups. -/
theorem foldl_stepSeg (A B : Rows F) (x : S4x128.Idx) : ∀ (ps : List (ℕ × ℕ)) (_ : ∀ p ∈ ps, p.1 < 4 ∧ p.2 < 8) (f : S4x128.Idx → Elt F .f32),
    ps.foldl (stepSeg A B) f x = if ((x 0).val, (x 1).val / 16) ∈ ps then chunkOut A B x else f x
  | [], _, f => rfl
  | (q, c) :: ps, h, f => by
    rw [List.foldl_cons, foldl_stepSeg A B x ps (fun p hp => h p (List.mem_cons_of_mem _ hp)),
      stepSeg_apply A B f (h (q, c) List.mem_cons_self).1 (h (q, c) List.mem_cons_self).2]
    by_cases hm : ((x 0).val, (x 1).val / 16) ∈ ps
    · simp [hm]
    · simp [hm]

section Runs

variable {Ix : Type} [DecidableEq Ix] {Name : Type} [DecidableEq Name] {U : Type} [URA U] {Lvl : Type} [Preorder Lvl]

local notation "𝕄" => MT nD τ sig Ix (Elt F) Name U Lvl

variable (defs : Defs nD τ sig (Elt F) Λ₀) (𝒱 : Variants) (bd : Option 𝒱.V) (d : Dev nD) (i : grid0.Coords)

/-- The tile at `i`, as a thread of device `d`. -/
abbrev thr : Thread nD τ := SparseCore.V d ((i 0).castLE hcore0) ((i 1).castLE hsub0)

/-- The feature buffer holds `A`. -/
abbrev aPts (A : Rows F) : sProp 𝕄 := (aV).view.loc (thr d i) ↦{fullShare} A
/-- The score buffer holds `B`. -/
abbrev bPts (B : Rows F) : sProp 𝕄 := (bV).view.loc (thr d i) ↦{fullShare} B
/-- The output buffer holds `f`. -/
abbrev oPts (f : S4x128.Idx → Elt F .f32) : sProp 𝕄 := (oV).view.loc (thr d i) ↦{fullShare} f

variable {α : Type} {Q : α → sProp (MT nD τ sig Ix (Elt F) Name U Lvl)}

theorem wp_ld_a (A : Rows F) (r c : ℕ) (k : FVec F S16 .f32 → Prog (Eff F i) α) :
    (aPts d i A : sProp 𝕄) ⊢ iprop((aPts d i A -∗ wp frame (wpE defs 𝒱 (thr d i) bd) Set.univ (k (vecAt A r c)) Q)
      -∗ wp frame (wpE defs 𝒱 (thr d i) bd) Set.univ (ld aV r c k) Q) := by
  unfold ld
  iintro Ha Hk
  iapply (wp_load_rect 𝒱 (thr d i) bd Set.univ (m := aV) (r := rowRect r c) (Finset.subset_univ _)) $$ Ha
  iintro Ha
  rw [read_a A r c]
  iapply Hk $$ Ha

theorem wp_ld_b (A : Rows F) (r c : ℕ) (k : FVec F S16 .f32 → Prog (Eff F i) α) :
    (bPts d i A : sProp 𝕄) ⊢ iprop((bPts d i A -∗ wp frame (wpE defs 𝒱 (thr d i) bd) Set.univ (k (vecAt A r c)) Q)
      -∗ wp frame (wpE defs 𝒱 (thr d i) bd) Set.univ (ld bV r c k) Q) := by
  unfold ld
  iintro Ha Hk
  iapply (wp_load_rect 𝒱 (thr d i) bd Set.univ (m := bV) (r := rowRect r c) (Finset.subset_univ _)) $$ Ha
  iintro Ha
  rw [read_b A r c]
  iapply Hk $$ Ha

theorem wp_lds (B : Rows F) : ∀ (rs : List ℕ) (k : List (FVec F S16 .f32) → Prog (Eff F i) α),
    (bPts d i B : sProp 𝕄) ⊢ iprop((bPts d i B -∗ wp frame (wpE defs 𝒱 (thr d i) bd) Set.univ (k (rs.map fun r => vecAt B r 0)) Q)
      -∗ wp frame (wpE defs 𝒱 (thr d i) bd) Set.univ (lds bV rs k) Q)
  | [], k => by
    iintro H Hk
    iapply Hk $$ H
  | r :: rs, k => by
    iintro H Hk
    rw [lds]
    iapply (wp_ld_b defs 𝒱 bd d i B r 0 _) $$ H
    iintro H
    iapply (wp_lds B rs _) $$ H
    iintro H
    iapply Hk $$ H

theorem wp_acc (A : Rows F) (c : ℕ) : ∀ (ws : List (FVec F S16 .f32)) (rs : List ℕ) (x : FVec F S16 .f32) (k : FVec F S16 .f32 → Prog (Eff F i) α),
    (aPts d i A : sProp 𝕄) ⊢ iprop((aPts d i A -∗ wp frame (wpE defs 𝒱 (thr d i) bd) Set.univ (k (accV ws (rs.map fun r => vecAt A r c) x)) Q)
      -∗ wp frame (wpE defs 𝒱 (thr d i) bd) Set.univ (acc aV c ws rs x k) Q)
  | [], rs, x, k => by
    iintro H Hk
    rw [acc, accV]
    · iapply Hk $$ H
    · rintro _ _ _ _ ⟨⟩
    · rintro _ _ _ _ ⟨⟩
  | w :: ws, [], x, k => by
    iintro H Hk
    rw [acc]
    · iapply Hk $$ H
    · rintro _ _ _ _ _ ⟨⟩
  | w :: ws, r :: rs, x, k => by
    iintro H Hk
    rw [acc]
    iapply (wp_ld_a defs 𝒱 bd d i A r c _) $$ H
    iintro H
    iapply (wp_acc A c ws rs _ k) $$ H
    iintro H
    iapply Hk $$ H

theorem wp_seg (A B : Rows F) (f : S4x128.Idx → Elt F .f32) (q c : ℕ) (k : Prog (Eff F i) α) :
    iprop(aPts d i A ∗ oPts d i f : sProp 𝕄)
      ⊢ iprop((iprop(aPts d i A ∗ oPts d i (stepSeg A B f (q, c))) -∗ wp frame (wpE defs 𝒱 (thr d i) bd) Set.univ k Q)
      -∗ wp frame (wpE defs 𝒱 (thr d i) bd) Set.univ (seg aV oV q c k (weights ((rows27 q).map fun r => vecAt B r 0)) (rows27 q)) Q) := by
  iintro ⟨Ha, Ho⟩ Hk
  have hw : ∃ w ws, weights ((rows27 q).map fun r => vecAt B r 0) = w :: ws := ⟨_, _, rfl⟩
  have hr : ∃ r rs, rows27 q = r :: rs := ⟨_, _, rfl⟩
  unfold stepSeg queryV
  obtain ⟨w, ws, hw⟩ := hw
  obtain ⟨r, rs, hr⟩ := hr
  rw [hw, hr, List.map_cons, wsumV, seg]
  iapply (wp_ld_a defs 𝒱 bd d i A r c _) $$ Ha
  iintro Ha
  iapply (wp_acc defs 𝒱 bd d i A c ws rs _ _) $$ Ha
  iintro Ha
  iapply (wp_load_rect 𝒱 (thr d i) bd Set.univ (m := oV) (r := outRect q c) (Finset.subset_univ _)) $$ Ho
  iintro Ho
  iapply (wp_store 𝒱 (thr d i) bd Set.univ (m := oV) (r := outRect q c) (Finset.subset_univ _)) $$ Ho
  iintro Ho
  iapply Hk
  isplitl [Ha]; · iexact Ha
  iexact Ho

theorem wp_segs (A B : Rows F) (q : ℕ) : ∀ (cs : List ℕ) (f : S4x128.Idx → Elt F .f32) (k : Prog (Eff F i) α),
    iprop(aPts d i A ∗ oPts d i f : sProp 𝕄)
      ⊢ iprop((iprop(aPts d i A ∗ oPts d i ((cs.map fun c => (q, c)).foldl (stepSeg A B) f)) -∗ wp frame (wpE defs 𝒱 (thr d i) bd) Set.univ k Q)
      -∗ wp frame (wpE defs 𝒱 (thr d i) bd) Set.univ (segs aV oV q (weights ((rows27 q).map fun r => vecAt B r 0)) cs k) Q)
  | [], f, k => by
    iintro H Hk
    rw [List.map_nil, List.foldl_nil]
    iapply Hk $$ H
  | c :: cs, f, k => by
    iintro H Hk
    rw [segs]
    iapply (wp_seg defs 𝒱 bd d i A B f q c _) $$ H
    iintro H
    rw [List.map_cons, List.foldl_cons]
    iapply (wp_segs A B q cs _ k) $$ H
    iintro H
    iapply Hk $$ H

/-- The lane groups of the queries `qs`, in the order the tile stores them. -/
def segList : List ℕ → List (ℕ × ℕ)
  | [] => []
  | q :: qs => ([0, 1, 2, 3, 4, 5, 6, 7].map fun c => (q, c)) ++ segList qs

theorem wp_queries_fold (A B : Rows F) : ∀ (qs : List ℕ) (f : S4x128.Idx → Elt F .f32) (k : Prog (Eff F i) α),
    iprop(aPts d i A ∗ bPts d i B ∗ oPts d i f : sProp 𝕄)
      ⊢ iprop((iprop(aPts d i A ∗ bPts d i B ∗ oPts d i ((segList qs).foldl (stepSeg A B) f)) -∗ wp frame (wpE defs 𝒱 (thr d i) bd) Set.univ k Q)
      -∗ wp frame (wpE defs 𝒱 (thr d i) bd) Set.univ (queries aV bV oV qs k) Q)
  | [], f, k => by
    iintro H Hk
    rw [segList, List.foldl_nil]
    iapply Hk $$ H
  | q :: qs, f, k => by
    iintro ⟨Ha, Hb, Ho⟩ Hk
    rw [queries, query, segList, List.foldl_append]
    iapply (wp_lds defs 𝒱 bd d i B (rows27 q) _) $$ Hb
    iintro Hb
    iapply (wp_segs defs 𝒱 bd d i A B q [0, 1, 2, 3, 4, 5, 6, 7] f _) $$ [Ha Ho]
    · isplitl [Ha] <;> iassumption
    iintro ⟨Ha, Ho⟩
    iapply (wp_queries_fold A B qs _ k) $$ [Ha Hb Ho]
    · isplitl [Ha]; · iexact Ha
      isplitl [Hb] <;> iassumption
    iintro H
    iapply Hk $$ H

/-- The four queries of a chunk: from feature rows `A` and score rows `B`, the output buffer at their results. -/
theorem wp_queries (A B : Rows F) (f : S4x128.Idx → Elt F .f32) (k : Prog (Eff F i) α) :
    iprop(aPts d i A ∗ bPts d i B ∗ oPts d i f : sProp 𝕄)
      ⊢ iprop((iprop(aPts d i A ∗ bPts d i B ∗ oPts d i (chunkOut A B)) -∗ wp frame (wpE defs 𝒱 (thr d i) bd) Set.univ k Q)
      -∗ wp frame (wpE defs 𝒱 (thr d i) bd) Set.univ (queries aV bV oV [0, 1, 2, 3] k) Q) := by
  have h : (segList [0, 1, 2, 3]).foldl (stepSeg A B) f = chunkOut A B := by
    funext x
    refine (foldl_stepSeg A B x _ (by decide) f).trans (if_pos ?_)
    have h0 : (x 0).val < 4 := (x 0).isLt
    have h1 : (x 1).val / 16 < 8 := Nat.div_lt_of_lt_mul (x 1).isLt
    have key : ∀ a < 4, ∀ b < 8, (a, b) ∈ segList [0, 1, 2, 3] := by decide
    exact key _ h0 _ h1
  exact h ▸ wp_queries_fold defs 𝒱 bd d i A B [0, 1, 2, 3] f k

end Runs

end Cert.Proof.KernelBody

end
-- ==== Proof.StreamBatch.lean ====
/-
  Several indirect gathers in flight on ONE DMA semaphore. Each row of each gather is one transfer of a `Transfers.Batch`
  on that semaphore: issuing a gather issues its rows as the batch's next transfers (`wp_gatherBatch`), and the batch's
  last wait hands back what every row left, from which each gather's destination, source and list come back whole
  (`rowsLeft_join`).
-/
module

public import Idealize.ShloMosaic.Lib.Batch
public import Idealize.ShloMosaic.Lib.SparseCore.Stream

@[expose] public section

noncomputable section

namespace Cert.Proof.StreamBatch

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type}

local notation "𝕄" => MT nD τ sig Ix (Elt F) Name U Lvl

/-- The transfers from the `j`-th on are the next `o` of them and those from the `j + o`-th on. -/
theorem pending_block {n j o : ℕ} (h : j + o ≤ n) (Φ : Fin n → sProp 𝕄) :
    bigSep (Transfers.pending j) Φ
      = iprop((bigSep Finset.univ fun k : Fin o => Φ ⟨j + k.val, by omega⟩) ∗ bigSep (Transfers.pending (j + o)) Φ) := by
  let em : Fin o ↪ Fin n := ⟨fun k => ⟨j + k.val, by omega⟩, fun a b e => Fin.ext (by simpa using e)⟩
  have hset : Transfers.pending (n := n) j = Finset.univ.map em ∪ Transfers.pending (j + o) := by
    ext t
    simp only [Transfers.pending, Finset.mem_filter, Finset.mem_univ, true_and, Finset.mem_union, Finset.mem_map]
    constructor
    · intro ht
      by_cases hb : j + o ≤ t.val
      · exact .inr hb
      · exact .inl ⟨⟨t.val - j, by omega⟩, Fin.ext (by change j + (t.val - j) = t.val; omega)⟩
    · rintro (⟨k, rfl⟩ | ht)
      · exact Nat.le_add_right _ _
      · omega
  have hd : Disjoint (Finset.univ.map em) (Transfers.pending (n := n) (j + o)) := by
    rw [Finset.disjoint_left]
    intro t ht ht'
    obtain ⟨k, -, rfl⟩ := Finset.mem_map.mp ht
    have := (Finset.mem_filter.mp ht').2
    have hk : (em k).val = j + k.val := rfl
    have := k.isLt
    omega
  rw [hset, BI.bigSep_union hd, BI.bigSep_map]
  rfl

variable (c : Thread nD τ) {sp : Space} {s₀ s si : Shape} {e : EltTy} {a : Nat}

section Rows

variable (src : Memref sig c.2.kind sp s₀ e) (dst : Memref sig c.2.kind .vmem s e) (hg : s₀.Gathers a s)
  (offs : Memref sig c.2.kind .vmem si .i32) (hn : si.numel = s.size hg.axis')
  (q qo : PosShare TreeShare) (fs : Buf (Elt F) (src.view.loc c)) (fd : Buf (Elt F) (dst.view.loc c)) (fo : Buf (Elt F) (offs.view.loc c))
  (ho : 0 < s.size hg.axis') (hin : ∀ x, (offs.view.read (Elt F) fo x).toNat < s₀.size hg.axis)

/-- What row `j` of a gather brings: the row of the source that entry `j` of the list names. -/
def rowPayload (j : Fin (s.size hg.axis')) : (s.rowShape hg.axis').Idx → Elt F e := fun i =>
  src.view.read (Elt F) fs (hg.rowIdx (rows (offs.view.read (Elt F) fo) hn hin j) i)

/-- What row `j` of a gather leaves: its row of the destination written, its entry of the list, its piece of the
    source's share. -/
def rowLeft (j : Fin (s.size hg.axis')) : sProp 𝕄 :=
  iprop(((dst.view.loc c ↦[(dst.view.slice (s.rowRect hg.axis' j)).set]{fullShare}
        ((dst.view.slice (s.rowRect hg.axis' j)).write (Elt F) fd
          (rowPayload c src hg offs hn fs fo hin j) Finset.univ))
      ∗ (offs.view.loc c ↦[{offs.view.emb (si.rowMajor.symm (j.cast hn.symm))}]{qo} fo))
    ∗ (src.view.loc c ↦[src.view.set]{pieceOf q _ ho j} fs))

instance rowLeft_storable (j : Fin (s.size hg.axis')) :
    Storable (upEmb : UEmb _ 𝕄) (rowLeft c src dst hg offs hn q qo fs fd fo ho hin j) := by
  unfold rowLeft; infer_instance

theorem entries_bijective : Function.Bijective fun j : Fin (s.size hg.axis') => si.rowMajor.symm (j.cast hn.symm) :=
  si.rowMajor.symm.bijective.comp (finCongr hn.symm).bijective

/-- What every row left, together: the destination holding the gathered rows, the source's share, the list's share. -/
theorem rowsLeft_join :
    (bigSep Finset.univ (rowLeft c src dst hg offs hn q qo fs fd fo ho hin) : sProp 𝕄)
      ⊢ iprop((dst.view.loc c ↦[dst.view.set]{fullShare}
            (dst.view.write (Elt F) fd (gatherPayload hg (src.view.read (Elt F) fs) (rows (offs.view.read (Elt F) fo) hn hin)) Finset.univ))
          ∗ (src.view.loc c ↦[src.view.set]{q} fs) ∗ (offs.view.loc c ↦[offs.view.set]{qo} fo)) := by
  have hrows := pointsTo_rows_write (Ix := Ix) (Name := Name) (U := U) (Lvl := Lvl) c dst.view hg.axis' fd
      (rowPayload c src hg offs hn fs fo hin)
      (gatherPayload hg (src.view.read (Elt F) fs) (rows (offs.view.read (Elt F) fo) hn hin)) fun j i => by
        unfold rowPayload gatherPayload; rw [Shape.Gathers.idx_rowRect_emb]
  unfold rowLeft
  iintro H
  ihave H1 := Transfers.bigSep_sep_out _ _ _ $$ H
  icases H1 with ⟨H2, Hsrc⟩
  ihave H3 := Transfers.bigSep_sep_out _ _ _ $$ H2
  icases H3 with ⟨Hrows, Hoffs⟩
  isplitl [Hrows]
  · iapply hrows $$ Hrows
  isplitl [Hsrc]
  · iapply (Entails.of_eq (pointsTo_piecesOf (src.view.set) fs ho q).symm) $$ Hsrc
  · iapply (Entails.of_eq (pointsTo_entries c offs.view _ (entries_bijective hg hn) qo fo).symm) $$ Hoffs

end Rows

variable [Preorder Lvl] {Λ : Labels} {defs : Defs nD τ sig (Elt F) Λ} (EC : UEmb Counters (MT nD τ sig Ix (Elt F) Name U Lvl)) (𝒱 : Variants) (bd : Option 𝒱.V)
variable {α : Type} {Q : α → sProp (MT nD τ sig Ix (Elt F) Name U Lvl)}

/-- The issue of an indirect gather whose rows are the next transfers, from the `j`-th, of a batch of transfers of `N`
    units on its semaphore: the tile hands in a share of the source, the destination, a share of the list, and continues
    holding the batch with those rows issued. -/
theorem wp_gatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) (N : ℕ) (hN : ∀ j, (dst.slice (s.rowRect hg.axis' j) (s.stride_rowRect hg.axis' j)).view.dmaCredit = N)
    (ho : 0 < s.size hg.axis') (hin : ∀ x, (offs.view.read (Elt F) fo x).toNat < s₀.size hg.axis)
    {n j u : ℕ} {D : Fin n → sProp 𝕄} (hj : j + s.size hg.axis' ≤ n) (hu : u ≤ j * N)
    (hD : ∀ t : Fin (s.size hg.axis'), rowLeft c src dst hg offs hn q qo fs fd fo ho hin t ⊢ D ⟨j + t.val, by omega⟩) :
    iprop((src.view.loc c ↦[src.view.set]{q} fs) ∗ (dst.view.loc c ↦[dst.view.set]{fullShare} fd)
        ∗ (offs.view.loc c ↦[offs.view.set]{qo} fo) ∗ Transfers.Batch EC c (.dma sem) ι N D j u)
      ⊢ iprop((Transfers.Batch EC c (.dma sem) ι N D (j + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun t w => (rowOf (s₀.size hg.axis) w).map (gatherRow c src dst hg sem hsrc he hsp hr t)) 0
  let rd : Fin (s.size hg.axis') → RowDma τ sig (Elt F) c.2 sem := fun t =>
    gatherRow c src dst hg sem hsrc he hsp hr t (rows (offs.view.read (Elt F) fo) hn hin t)
  have hA : S.RowsAgree := by
    intro t x x' ρ ρ' h h'
    obtain ⟨_, _, rfl⟩ := Option.map_eq_some_iff.mp h
    obtain ⟨_, _, rfl⟩ := Option.map_eq_some_iff.mp h'
    rfl
  have hrd : ∀ t, S.row t (S.word fo t) = some (rd t) := fun t => by
    change (rowOf (s₀.size hg.axis) (offs.view.read (Elt F) fo (S.entry t))).map _ = _
    rw [rowOf_of_lt (hin _)]; rfl
  have hsum : ∑ t, (rd t).dst.view.dmaCredit = s.size hg.axis' * N := by
    rw [Finset.sum_congr rfl fun t _ => (hN t : (rd t).dst.view.dmaCredit = N), Finset.sum_const, Finset.card_univ, Fintype.card_fin, smul_eq_mul]
  unfold Transfers.Batch
  iintro ⟨Hs, Hd, Ho, ⟨%γ, %γ₀, %κ, #Hinv, HI, H0, Hcred⟩⟩ Hk
  ihave HI' := (Entails.of_eq (pending_block hj fun t => count EC (γ t) 0)) $$ HI
  icases HI' with ⟨Hnow, HI⟩
  ihave Hd' := (Entails.of_eq (pointsTo_rows c dst.view hg.axis' fullShare fd)) $$ Hd
  ihave Ho' := (Entails.of_eq (pointsTo_entries c offs.view _ (entries_bijective hg hn) qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) hA hrd hsum) $$ [Hd' Ho' Hs' Hnow]
  · have hrow : ∀ t : Fin (s.size hg.axis'), iprop(inv κ (Transfers.batchBody EC (c, SemLoc.dma sem) N D γ γ₀)
          ∗ (((dst.view.loc c ↦[(dst.view.slice (s.rowRect hg.axis' t)).set]{fullShare} fd) ∗ S.heldEntry qo fo t)
              ∗ (src.view.loc c ↦[src.view.set]{pieceOf q _ ho t} fs)) ∗ count EC (γ ⟨j + t.val, by omega⟩) 0)
        ⊢ iprop(S.heldEntry qo fo t ∗ (S.heldEntry qo fo t -∗ rowRes c (rd t))) := fun t => by
      iintro ⟨#Hinv, ⟨⟨Hr, He⟩, Hsq⟩, Hγ⟩
      isplitl [He]; · iexact He
      iintro He
      unfold rowRes
      iexists pieceOf q _ ho t, fs, iprop((dst.view.loc c ↦[(dst.view.slice (s.rowRect hg.axis' t)).set]{fullShare}
        ((dst.view.slice (s.rowRect hg.axis' t)).write (Elt F) fd
          (rowPayload c src hg offs hn fs fo hin t) Finset.univ)) ∗ S.heldEntry qo fo t)
      isplitl [Hsq]; · iexact Hsq
      isplitl [Hr He]
      · iapply writeUpdate_frame
        isplitl [Hr]
        · iapply (pointsTo_writeUpdate c (v := dst.view.slice (s.rowRect hg.axis' t)) subset_rfl) $$ Hr
        · iexact He
      · rw [show (rd t).dst.view.amount (.dma sem) = N from hN t]
        iapply (Transfers.batch_creditUpdate EC ⟨j + t.val, by omega⟩ (hD t))
        isplitr; · iexact Hinv
        iexact Hγ
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hnow]; · isplitl [H2] <;> iassumption
    iapply (Transfers.bigSep_mono_pers Finset.univ _ _ _ fun t _ => hrow t)
    isplitr; · iexact Hinv
    iexact H3
  iintro Hcred'
  iapply Hk
  iexists γ, γ₀, κ
  isplitr; · iexact Hinv
  isplitl [HI]; · iexact HI
  isplitl [H0]; · iexact H0
  rw [show (j + s.size hg.axis') * N - u = (j * N - u) + s.size hg.axis' * N by rw [Nat.add_mul]; omega, ← tallyAt_add]
  icombine Hcred Hcred' as H
  iexact H

end Cert.Proof.StreamBatch

end
-- ==== Proof.TileSetup.lean ====
/-
  The tile's pieces of the call's arrays: which of the thirty-two tiles it is, its row of index words, its block of
  output rows, and the values: the gathered rows of a chunk (`gathered`) and the call's whole output (`outVal`).
-/
module

public import Idealize.ShloMosaic.Lib.SparseCore.Quiescent
public import Idealize.ShloMosaic.Lib.SparseCore.Ops
public import proofs.«01_k».proof.Proof.BodyEq
public import proofs.«01_k».proof.Proof.Queries
public import proofs.«01_k».proof.Proof.StreamBatch

@[expose] public section

noncomputable section

namespace Cert.Proof.KernelBody

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel
open Cert.Kernel.Facts₀
open Cert.Kernel.Gen (k0_off1_eq k0_off2_eq k0_off3_eq)

variable {F : FTy → Type} [FloatOps F]

/-! ## The arrays -/

/-- A table of feature or score rows. -/
abbrev Table (F : FTy → Type) : Type := S16384x128.Idx → Elt F .f32
/-- The index words of every tile. -/
abbrev Words (F : FTy → Type) : Type := S32x16x108.Idx → Elt F .i32
/-- The call's output. -/
abbrev OutArr (F : FTy → Type) : Type := S2048x128.Idx → Elt F .f32

local notation "xV" => (Memref.whole Cert.Kernel.main_v7_scv : Memref Cert.Kernel.sig Kind.scVector Space.hbm Cert.Kernel.S16384x128 EltTy.f32)
local notation "sV" => (Memref.whole Cert.Kernel.main_v8_scv : Memref Cert.Kernel.sig Kind.scVector Space.hbm Cert.Kernel.S16384x128 EltTy.f32)
local notation "pV" => (Memref.whole Cert.Kernel.main_v9_scv : Memref Cert.Kernel.sig Kind.scVector Space.hbm Cert.Kernel.S32x16x108 EltTy.i32)
local notation "hV" => (Memref.whole Cert.Kernel.main_v10_scv : Memref Cert.Kernel.sig Kind.scVector Space.hbm Cert.Kernel.S2048x128 EltTy.f32)
local notation "iV" => (Memref.whole Cert.Kernel.cc0_scratch0 : Memref Cert.Kernel.sig Kind.scVector Space.vmem Cert.Kernel.S16x108 EltTy.i32)
local notation "aV" => (Memref.whole Cert.Kernel.cc0_scratch1 : Memref Cert.Kernel.sig Kind.scVector Space.vmem Cert.Kernel.S108x128 EltTy.f32)
local notation "bV" => (Memref.whole Cert.Kernel.cc0_scratch2 : Memref Cert.Kernel.sig Kind.scVector Space.vmem Cert.Kernel.S108x128 EltTy.f32)
local notation "oV" => (Memref.whole Cert.Kernel.cc0_scratch3 : Memref Cert.Kernel.sig Kind.scVector Space.vmem Cert.Kernel.S4x128 EltTy.f32)

theorem bound_zero : grid0.bound 0 = 2 := rfl
theorem bound_one : grid0.bound 1 = 16 := rfl

/-- Which of the thirty-two tiles: twice the subcore plus the core. -/
def wid (i : grid0.Coords) : Fin 32 :=
  ⟨2 * (i 1).val + (i 0).val, by have h0 : (i 0).val < 2 := (i 0).isLt; have h1 : (i 1).val < 16 := (i 1).isLt; omega⟩

theorem pdiv : 32 ∣ S32x16x108.size 0 := ⟨1, rfl⟩
theorem odiv : 32 ∣ S2048x128.size 0 := ⟨64, rfl⟩

/-- Tile `w`'s index words. -/
def pSet (w : Fin 32) : Finset S32x16x108.Idx := (Rect.part (s := S32x16x108) (a₀ := 0) pdiv w).set
/-- Tile `w`'s output rows. -/
def oSet (w : Fin 32) : Finset S2048x128.Idx := (Rect.part (s := S2048x128) (a₀ := 0) odiv w).set

theorem mem_oSet (w : Fin 32) (x : S2048x128.Idx) : x ∈ oSet w ↔ (x 0).val / 64 = w.val := by
  unfold oSet Rect.part Rect.block
  rw [Rect.mem_set_unit]
  have h1 : (x 1).val < 128 := (x 1).isLt
  constructor
  · intro h
    have h0 : w.val * 64 ≤ (x 0).val ∧ (x 0).val < w.val * 64 + 64 := h 0
    omega
  · intro h a
    match a with
    | ⟨0, _⟩ => change w.val * 64 ≤ (x 0).val ∧ (x 0).val < w.val * 64 + 64; omega
    | ⟨1, _⟩ => change 0 * 128 ≤ (x 1).val ∧ (x 1).val < 0 * 128 + 128; omega

/-! ## The values -/

/-- The index in the words' array. -/
abbrev wordIx (w t r : ℕ) : S32x16x108.Idx := fun
  | 0 => ⟨w % 32, Nat.mod_lt _ (by decide)⟩
  | 1 => ⟨t % 16, Nat.mod_lt _ (by decide)⟩
  | 2 => ⟨r % 108, Nat.mod_lt _ (by decide)⟩

/-- The index in a table. -/
abbrev tabIx (r x : ℕ) : S16384x128.Idx := fun
  | 0 => ⟨r % 16384, Nat.mod_lt _ (by decide)⟩
  | 1 => ⟨x % 128, Nat.mod_lt _ (by decide)⟩

/-- The rows of `X` that tile `w` gathers for its chunk `t`: row `r` is the row of `X` that word `r` names. -/
def gathered (X : Table F) (PG : Words F) (w t : ℕ) : Rows F := fun x =>
  X (tabIx (BitVec.toNat (PG (wordIx w t (x 0).val) : BitVec 32)) (x 1).val)

/-- The index in a chunk's output. -/
abbrev chunkIx (q x : ℕ) : S4x128.Idx := fun
  | 0 => ⟨q % 4, Nat.mod_lt _ (by decide)⟩
  | 1 => ⟨x % 128, Nat.mod_lt _ (by decide)⟩

/-- The call's output: row `64w + 4t + q` is query `q` of chunk `t` of tile `w`. -/
def outVal (X Sx : Table F) (PG : Words F) : OutArr F := fun x =>
  chunkOut (gathered X PG ((x 0).val / 64) ((x 0).val % 64 / 4)) (gathered Sx PG ((x 0).val / 64) ((x 0).val % 64 / 4)) (chunkIx (x 0).val (x 1).val)

/-- Every word names a row of the tables. -/
def InRange (PG : Words F) : Prop := ∀ x, (PG x : BitVec 32).toNat < 16384

/-! ## The tile's memrefs -/

section Memrefs

variable (i : grid0.Coords)

/-- The tile's index words in the words' array, as it fetches them. -/
abbrev pRow : Memref sig .scVector .hbm S16x108 .i32 :=
  ((pV).slice (Rect.unit (s := S32x16x108) (k0_off1 i) S1x16x108.size (Facts₀.k0_off1_inb i)) (fun _ => rfl)).squeeze S16x108 squeezes_S1x16x108_S16x108

theorem pRect_eq : Rect.unit (s := S32x16x108) (k0_off1 i) S1x16x108.size (Facts₀.k0_off1_inb i) = Rect.part (s := S32x16x108) (a₀ := 0) pdiv (wid i) := by
  unfold Rect.part Rect.block
  congr 1 <;> funext a
  · rw [k0_off1_eq]
    match a with
    | 0 => simp [Shape.partIx, Shape.partSize, wid]
    | 1 => simp [Shape.partIx, Shape.partSize]
    | 2 => simp [Shape.partIx, Shape.partSize]
  · match a with
    | 0 => simp [Shape.partSize]
    | 1 => simp [Shape.partSize]
    | 2 => simp [Shape.partSize]

theorem set_pRow : (pRow i).view.set = pSet (wid i) := by
  refine (View.set_reshape ((pV).view.slice (Rect.unit (s := S32x16x108) (k0_off1 i) S1x16x108.size (Facts₀.k0_off1_inb i)))
    squeezes_S1x16x108_S16x108.numel_eq).trans ?_
  refine (View.set_slice _ _).trans ?_
  exact Finset.map_refl.trans (congrArg (fun r : Rect S32x16x108 => r.set) (pRect_eq i))

/-- What the fetch reads: word `(t, r)` of the tile's sixteen lists. -/
theorem read_pRow (PG : Words F) (x : S16x108.Idx) :
    (pRow i).view.read (Elt F) PG x = PG (wordIx (wid i).val (x 0).val (x 1).val) := by
  rw [View.read_apply]
  refine (cast_eq _ _).trans (congrArg PG ?_)
  have hx0 : (x 0).val < 16 := (x 0).isLt
  have hx1 : (x 1).val < 108 := (x 1).isLt
  have hw : (wid i).val < 32 := (wid i).isLt
  have hr : Shape.reshapeEquiv squeezes_S1x16x108_S16x108.numel_eq x = (Fin.cons (⟨0, Nat.one_pos⟩ : Fin 1) x : S1x16x108.Idx) := by
    apply Shape.reshapeEquiv_eq_of_rowMajor
    rw [Shape.rowMajor_val_three, Shape.rowMajor_val_two]
    change (0 * 16 + (x 0).val) * 108 + (x 1).val = (x 0).val * 108 + (x 1).val
    omega
  funext a
  refine Fin.ext ?_
  have he : (pRow i).view.emb x = (Rect.unit (s := S32x16x108) (k0_off1 i) S1x16x108.size (Facts₀.k0_off1_inb i)).emb
      (Shape.reshapeEquiv squeezes_S1x16x108_S16x108.numel_eq x) := rfl
  rw [he, hr]
  have e0 : k0_off1 i 0 = (wid i).val := congrFun (k0_off1_eq i) 0
  have e1 : k0_off1 i 1 = 0 := congrFun (k0_off1_eq i) 1
  have e2 : k0_off1 i 2 = 0 := congrFun (k0_off1_eq i) 2
  match a with
  | ⟨0, _⟩ => change k0_off1 i 0 + 1 * 0 = (wid i).val % 32; omega
  | ⟨1, _⟩ => change k0_off1 i 1 + 1 * (x 0).val = (x 0).val % 16; omega
  | ⟨2, _⟩ => change k0_off1 i 2 + 1 * (x 1).val = (x 1).val % 108; omega

/-- What a list of the index scratch reads. -/
theorem read_idxRow (I : S16x108.Idx → Elt F .i32) (t : Fin k0_t1_loop.trips) (r : S108.Idx) (y : S16x108.Idx)
    (h0 : (y 0).val = t.val) (h1 : (y 1).val = (r 0).val) : (idxRow iV t).view.read (Elt F) I r = I y := by
  rw [View.read_apply]
  refine (cast_eq _ _).trans (congrArg I ?_)
  have hr : Shape.reshapeEquiv squeezes_S1x108_S108.numel_eq r = (Fin.cons (⟨0, Nat.one_pos⟩ : Fin 1) r : S1x108.Idx) := by
    apply Shape.reshapeEquiv_eq_of_rowMajor
    rw [Shape.rowMajor_val_two, Shape.rowMajor_val_one]
    change 0 * 108 + (r 0).val = (r 0).val
    omega
  funext a
  refine Fin.ext ?_
  have he : (idxRow iV t).view.emb r = (Rect.unit (s := S16x108) (k0_off2 t) S1x108.size (Facts₀.k0_off2_inb t)).emb
      (Shape.reshapeEquiv squeezes_S1x108_S108.numel_eq r) := rfl
  rw [he, hr]
  have e0 : k0_off2 t 0 = t.val := congrFun (k0_off2_eq t) 0
  have e1 : k0_off2 t 1 = 0 := congrFun (k0_off2_eq t) 1
  match a with
  | ⟨0, _⟩ => change k0_off2 t 0 + 1 * 0 = (y 0).val; omega
  | ⟨1, _⟩ => change k0_off2 t 1 + 1 * (r 0).val = (y 1).val; omega

/-- A table's elements, as the gathers name them, are all of them. -/
theorem set_table_x : (table xV).view.set = Finset.univ := by
  refine Finset.eq_univ_iff_forall.mpr fun x => Finset.mem_map.mpr ⟨x, Finset.mem_univ _, funext fun a => Fin.ext ?_⟩
  match a with
  | ⟨0, _⟩ => change 0 + 1 * (x 0).val = (x 0).val; omega
  | ⟨1, _⟩ => change 0 + 1 * (x 1).val = (x 1).val; omega

theorem set_table_s : (table sV).view.set = Finset.univ := set_table_x

/-- The gathers read a table as it is. -/
theorem read_table_x (X : Table F) : (table xV).view.read (Elt F) X = X := by
  funext x
  rw [View.read_apply]
  refine (cast_eq _ _).trans (congrArg X (funext fun a => Fin.ext ?_))
  match a with
  | ⟨0, _⟩ => change 0 + 1 * (x 0).val = (x 0).val; omega
  | ⟨1, _⟩ => change 0 + 1 * (x 1).val = (x 1).val; omega

theorem read_table_s (X : Table F) : (table sV).view.read (Elt F) X = X := read_table_x X

/-- What a gather of chunk `t` brings, the index scratch holding the tile's words: the chunk's gathered rows. -/
theorem payload_eq (X : Table F) (PG : Words F) (I : S16x108.Idx → Elt F .i32) (t : Fin k0_t1_loop.trips) (w : ℕ)
    (hI : ∀ x, I x = PG (wordIx w (x 0).val (x 1).val)) (hn : S108.numel = S108x128.size gathers_S16384x128_S108x128.axis')
    (hin : ∀ x, ((idxRow iV t).view.read (Elt F) I x : BitVec 32).toNat < S16384x128.size gathers_S16384x128_S108x128.axis) :
    SparseCore.gatherPayload (F := F) (e := .f32) gathers_S16384x128_S108x128 X (SparseCore.rows (F := F) ((idxRow iV t).view.read (Elt F) I) hn hin)
      = gathered X PG w t.val := by
  funext x
  have hx0 : (x 0).val < 108 := (x 0).isLt
  have hx1 : (x 1).val < 128 := (x 1).isLt
  have ht : t.val < 16 := t.isLt
  unfold SparseCore.gatherPayload gathered
  refine congrArg X (funext fun b => Fin.ext ?_)
  match b with
  | ⟨0, _⟩ =>
    refine (congrArg Fin.val (Shape.Gathers.idx_axis gathers_S16384x128_S108x128 _ x)).trans ?_
    have hlt := hin (S108.rowMajor.symm ((x 0).cast hn.symm))
    have hk : ((S108.rowMajor.symm ((x 0).cast hn.symm)) 0).val = (x 0).val := by
      have := congrArg Fin.val (S108.rowMajor.apply_symm_apply ((x 0).cast hn.symm))
      rw [Shape.rowMajor_val_one] at this
      exact this
    have hrd := read_idxRow (F := F) I t (S108.rowMajor.symm ((x 0).cast hn.symm)) (fun | 0 => ⟨t.val, ht⟩ | 1 => ⟨(x 0).val, hx0⟩) rfl hk.symm
    rw [hI] at hrd
    change BitVec.toNat ((idxRow iV t).view.read (Elt F) I (S108.rowMajor.symm ((x 0).cast hn.symm)) : BitVec 32) = BitVec.toNat (PG (wordIx w t.val (x 0).val) : BitVec 32) % 16384
    rw [hrd] at hlt ⊢
    exact (Nat.mod_eq_of_lt hlt).symm
  | ⟨1, _⟩ =>
    refine (Shape.Gathers.idx_of_ne gathers_S16384x128_S108x128 _ x 1 (by decide)).trans ?_
    change (x 1).val = (x 1).val % 128
    omega

/-- The words a chunk's gathers read name rows of the tables. -/
theorem words_inRange (PG : Words F) (hPG : InRange PG) (I : S16x108.Idx → Elt F .i32) (t : Fin k0_t1_loop.trips) (w : ℕ)
    (hI : ∀ x, I x = PG (wordIx w (x 0).val (x 1).val)) (x : S108.Idx) :
    ((idxRow iV t).view.read (Elt F) I x : BitVec 32).toNat < S16384x128.size gathers_S16384x128_S108x128.axis := by
  have ht : t.val < 16 := t.isLt
  rw [read_idxRow (F := F) I t x (fun | 0 => ⟨t.val, ht⟩ | 1 => x 0) rfl rfl, hI]
  exact hPG _

/-- The copy out of chunk `t` writes the chunk's four rows of the output. -/
theorem write_outRows (i : grid0.Coords) (t : Fin k0_t1_loop.trips) (f : OutArr F) (g : S4x128.Idx → Elt F .f32) (x : S2048x128.Idx) :
    (outRows i hV t).view.write (Elt F) f g Finset.univ x
      = if (x 0).val / 64 = (wid i).val ∧ (x 0).val % 64 / 4 = t.val then g (chunkIx (x 0).val (x 1).val) else f x := by
  have hx1 : (x 1).val < 128 := (x 1).isLt
  have ht : t.val < 16 := t.isLt
  have e0 : k0_off3 i t 0 = 128 * (i 1).val + 64 * (i 0).val + 4 * t.val := congrFun (k0_off3_eq i t) 0
  have e1 : k0_off3 i t 1 = 0 := congrFun (k0_off3_eq i t) 1
  have hw : (wid i).val = 2 * (i 1).val + (i 0).val := rfl
  split
  · rename_i h
    have hx : x = (outRows i hV t).view.emb (chunkIx (x 0).val (x 1).val) := by
      funext a; refine Fin.ext ?_
      match a with
      | ⟨0, _⟩ => change (x 0).val = k0_off3 i t 0 + 1 * ((x 0).val % 4); omega
      | ⟨1, _⟩ => change (x 1).val = k0_off3 i t 1 + 1 * ((x 1).val % 128); omega
    refine (congrArg _ hx).trans ?_
    refine (View.write_emb_of_mem _ _ (Finset.mem_univ _)).trans ?_
    exact cast_eq _ _
  · rename_i h
    refine View.write_of_not_mem _ _ _ fun hm => h ?_
    rw [View.setOn_univ] at hm
    obtain ⟨y, -, hy⟩ := Finset.mem_map.mp hm
    have f0 : (x 0).val = k0_off3 i t 0 + 1 * (y 0).val := (congrArg (fun z : S2048x128.Idx => (z 0).val) hy).symm
    have y0 : (y 0).val < 4 := (y 0).isLt
    omega

/-- The rows a chunk's copy out writes are among the tile's own. -/
theorem outRows_subset (i : grid0.Coords) (t : Fin k0_t1_loop.trips) : (outRows i hV t).view.set ⊆ oSet (wid i) := by
  intro x hm
  obtain ⟨y, -, hy⟩ := Finset.mem_map.mp hm
  have e0 : k0_off3 i t 0 = 128 * (i 1).val + 64 * (i 0).val + 4 * t.val := congrFun (k0_off3_eq i t) 0
  have f0 : (x 0).val = k0_off3 i t 0 + 1 * (y 0).val := (congrArg (fun z : S2048x128.Idx => (z 0).val) hy).symm
  have y0 : (y 0).val < 4 := (y 0).isLt
  have ht : t.val < 16 := t.isLt
  have hw : (wid i).val = 2 * (i 1).val + (i 0).val := rfl
  rw [mem_oSet]
  omega

end Memrefs

end Cert.Proof.KernelBody

end
-- ==== Proof.Chunk.lean ====
/-
  One chunk of a tile: the two gathers, both in flight on one semaphore, their waits, the four queries and the copy out
  (`chunk_step`). It keeps the loop's invariant `Inv`: before chunk `n` the tile's output rows of the chunks below `n`
  hold the call's values.
-/
module

public import proofs.«01_k».proof.Proof.TileSetup

@[expose] public section

noncomputable section

namespace Cert.Proof.KernelBody

open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Cert.Kernel
open Cert.Kernel.Facts₀
open Cert.Proof.StreamBatch

variable {F : FTy → Type} [FloatOps F]

local notation "xV" => (Memref.whole Cert.Kernel.main_v7_scv : Memref Cert.Kernel.sig Kind.scVector Space.hbm Cert.Kernel.S16384x128 EltTy.f32)
local notation "sV" => (Memref.whole Cert.Kernel.main_v8_scv : Memref Cert.Kernel.sig Kind.scVector Space.hbm Cert.Kernel.S16384x128 EltTy.f32)
local notation "pV" => (Memref.whole Cert.Kernel.main_v9_scv : Memref Cert.Kernel.sig Kind.scVector Space.hbm Cert.Kernel.S32x16x108 EltTy.i32)
local notation "hV" => (Memref.whole Cert.Kernel.main_v10_scv : Memref Cert.Kernel.sig Kind.scVector Space.hbm Cert.Kernel.S2048x128 EltTy.f32)
local notation "iV" => (Memref.whole Cert.Kernel.cc0_scratch0 : Memref Cert.Kernel.sig Kind.scVector Space.vmem Cert.Kernel.S16x108 EltTy.i32)
local notation "aV" => (Memref.whole Cert.Kernel.cc0_scratch1 : Memref Cert.Kernel.sig Kind.scVector Space.vmem Cert.Kernel.S108x128 EltTy.f32)
local notation "bV" => (Memref.whole Cert.Kernel.cc0_scratch2 : Memref Cert.Kernel.sig Kind.scVector Space.vmem Cert.Kernel.S108x128 EltTy.f32)
local notation "oV" => (Memref.whole Cert.Kernel.cc0_scratch3 : Memref Cert.Kernel.sig Kind.scVector Space.vmem Cert.Kernel.S4x128 EltTy.f32)

variable {Ix : Type} [DecidableEq Ix] {Name : Type} [DecidableEq Name] [Infinite Name] {U : Type} [URA U] {Lvl : Type} [Preorder Lvl]

local notation "𝕄" => MT nD τ sig Ix (Elt F) Name U Lvl

variable (d : Dev nD) (i : grid0.Coords)

/-- A share of the feature table. -/
abbrev xPts (q : PosShare TreeShare) (X : Table F) : sProp 𝕄 := (xV).view.loc (thr d i) ↦{q} X
/-- A share of the score table. -/
abbrev sPts (q : PosShare TreeShare) (X : Table F) : sProp 𝕄 := (sV).view.loc (thr d i) ↦{q} X
/-- The index scratch. -/
abbrev iPts (I : S16x108.Idx → Elt F .i32) : sProp 𝕄 := (iV).view.loc (thr d i) ↦{fullShare} I
/-- The tile's rows of the output. -/
abbrev hPts (f : OutArr F) : sProp 𝕄 := (hV).view.loc (thr d i) ↦[oSet (wid i)]{fullShare} f

/-- What the loop keeps before chunk `n`. -/
def Inv (ι : Ix) (qx qs : PosShare TreeShare) (X Sx : Table F) (PG : Words F) (I : S16x108.Idx → Elt F .i32)
    (O : CellTallies nD τ sig Ix) (W : Waits sig Ix) (n : ℕ) : sProp 𝕄 :=
  iprop(Transfers.MayWaits (thr d i) ι O ∗ xPts d i qx X ∗ sPts d i qs Sx ∗ iPts d i I
    ∗ (∃ A, aPts d i A) ∗ (∃ B, bPts d i B) ∗ (∃ f, oPts d i f)
    ∗ semVal (thr d i, .dma cc0_scratch4.sem) 0 ∗ semVal (thr d i, .dma cc0_scoped1.sem) 0
    ∗ (∃ f, ⌜∀ x : S2048x128.Idx, (x 0).val / 64 = (wid i).val → (x 0).val % 64 / 4 < n → f x = outVal X Sx PG x⌝ ∗ hPts d i f)
    ∗ ∃ W', ⌜∀ p ∈ W', p ∈ W ∨ p.2 = ι⌝ ∗ owes (thr d i) O W')

/-- The number of rows of a gather. -/
abbrev nRows : ℕ := S108x128.size gathers_S16384x128_S108x128.axis'
/-- The units a row's transfer adds to the semaphore. -/
abbrev rowCredit (a : Memref sig .scVector .vmem S108x128 .f32) : ℕ :=
  (a.slice (S108x128.rowRect gathers_S16384x128_S108x128.axis' ⟨0, by decide⟩) (S108x128.stride_rowRect _ _)).view.dmaCredit

section Deliveries

variable (qx qs qo₁ qo₂ : PosShare TreeShare) (X Sx : Table F) (A B : Rows F) (I : S16x108.Idx → Elt F .i32) (t : Fin k0_t1_loop.trips)
  (hin : ∀ x, ((idxRow iV t).view.read (Elt F) I x : BitVec 32).toNat < S16384x128.size gathers_S16384x128_S108x128.axis)

/-- What row `j` of the feature gather leaves. -/
abbrev leftA (j : Fin nRows) : sProp 𝕄 :=
  rowLeft (thr d i) (table xV) aV gathers_S16384x128_S108x128 (idxRow iV t) rfl qx qo₁ X A I (by decide) hin j
/-- What row `j` of the score gather leaves. -/
abbrev leftB (j : Fin nRows) : sProp 𝕄 :=
  rowLeft (thr d i) (table sV) bV gathers_S16384x128_S108x128 (idxRow iV t) rfl qs qo₂ Sx B I (by decide) hin j

/-- What the rows of both gathers leave, the feature gather's first. -/
def both (t' : Fin (nRows + nRows)) : sProp 𝕄 :=
  Fin.addCases (motive := fun _ => sProp 𝕄) (leftA d i qx qo₁ X A I t hin) (leftB d i qs qo₂ Sx B I t hin) t'

instance both_storable (t' : Fin (nRows + nRows)) :
    Storable (upEmb : UEmb _ 𝕄) (both d i qx qs qo₁ qo₂ X Sx A B I t hin t') := by
  refine Fin.addCases (fun j => ?_) (fun j => ?_) t'
  · unfold both; rw [Fin.addCases_left]; exact rowLeft_storable ..
  · unfold both; rw [Fin.addCases_right]; exact rowLeft_storable ..

theorem both_split :
    bigSep Finset.univ (both d i qx qs qo₁ qo₂ X Sx A B I t hin)
      = (iprop(bigSep Finset.univ (leftA d i qx qo₁ X A I t hin) ∗ bigSep Finset.univ (leftB d i qs qo₂ Sx B I t hin)) : sProp 𝕄) := by
  rw [bigSep_univ_equiv finSumFinEquiv, bigSep_univ_sum]
  congr 1

theorem leftA_both (j : Fin nRows) (h : 0 + j.val < nRows + nRows) :
    leftA d i qx qo₁ X A I t hin j ⊢ (both d i qx qs qo₁ qo₂ X Sx A B I t hin ⟨0 + j.val, h⟩ : sProp 𝕄) := by
  rw [show (⟨0 + j.val, h⟩ : Fin (nRows + nRows)) = Fin.castAdd nRows j from Fin.ext (Nat.zero_add _), both, Fin.addCases_left]

theorem leftB_both (j : Fin nRows) (h : 0 + nRows + j.val < nRows + nRows) :
    leftB d i qs qo₂ Sx B I t hin j ⊢ (both d i qx qs qo₁ qo₂ X Sx A B I t hin ⟨0 + nRows + j.val, h⟩ : sProp 𝕄) := by
  rw [show (⟨0 + nRows + j.val, h⟩ : Fin (nRows + nRows)) = Fin.natAdd nRows j from Fin.ext (by simp [Nat.add_comm]), both, Fin.addCases_right]

end Deliveries

variable (defs : Defs nD τ sig (Elt F) Λ₀) (𝒱 : Variants) (bd : Option 𝒱.V) (EC : UEmb Counters (MT nD τ sig Ix (Elt F) Name U Lvl))

set_option maxHeartbeats 4000000 in
/-- One chunk keeps the loop's invariant. -/
theorem chunk_step [hEC : EC.LandsIn (upEmb : UEmb _ 𝕄)] (ι : Ix) (qx qs : PosShare TreeShare) (X Sx : Table F) (PG : Words F) (hPG : InRange PG) (I : S16x108.Idx → Elt F .i32)
    (hI : ∀ x, I x = PG (wordIx (wid i).val (x 0).val (x 1).val)) (O : CellTallies nD τ sig Ix) (W : Waits sig Ix) (t : Fin k0_t1_loop.trips) :
    (Inv d i ι qx qs X Sx PG I O W t.val : sProp 𝕄)
      ⊢ wp frame (wpE defs 𝒱 (thr d i) bd) Set.univ
          (chunk i xV sV hV iV aV (Memref.isWhole_whole _) bV (Memref.isWhole_whole _) oV (Memref.isWhole_whole _) cc0_scratch4 cc0_scoped1 t)
          fun _ => Inv d i ι qx qs X Sx PG I O W (t.val + 1) := by
  have hin := words_inRange PG hPG I t (wid i).val hI
  unfold Inv chunk
  iintro ⟨#Hmw, Hx, Hs, Hi, ⟨%A, Ha⟩, ⟨%B, Hb⟩, ⟨%fo, Ho⟩, Hsem, Hsem1, ⟨%f, %hf, Hh⟩, %W', %hW', HO⟩
  -- the index scratch's row, in two halves
  ihave Hi2 := (pointsTo_split_subset (q := fullShare) (f := I) (S := Finset.univ) (Finset.subset_univ (idxRow iV t).view.set)).1 $$ Hi
  icases Hi2 with ⟨Hir, Hirest⟩
  ihave Hih := (pointsTo_share (PosShare.mem_left_op_right fullShare)).1 $$ Hir
  icases Hih with ⟨Hi₁, Hi₂⟩
  imod (Transfers.batch_alloc' EC (thr d i) ι (rowCredit aV)
    (both d i qx qs fullShare.left fullShare.right X Sx A B I t hin)) $$ Hsem with HB
  ihave Hx' := (Entails.of_eq (show (xPts d i qx X : sProp 𝕄) = (table xV).view.loc (thr d i) ↦[(table xV).view.set]{qx} X by rw [set_table_x])) $$ Hx
  ihave Hs' := (Entails.of_eq (show (sPts d i qs Sx : sProp 𝕄) = (table sV).view.loc (thr d i) ↦[(table sV).view.set]{qs} Sx by rw [set_table_s])) $$ Hs
  ihave Ha' := (Entails.of_eq (show (aPts d i A : sProp 𝕄) = (aV).view.loc (thr d i) ↦[(aV).view.set]{fullShare} A by rw [View.set_whole])) $$ Ha
  ihave Hb' := (Entails.of_eq (show (bPts d i B : sProp 𝕄) = (bV).view.loc (thr d i) ↦[(bV).view.set]{fullShare} B by rw [View.set_whole])) $$ Hb
  iapply (wp_gatherBatch (thr d i) EC 𝒱 bd (hg := gathers_S16384x128_S108x128) (src := table xV) (dst := aV) (offs := idxRow iV t) (j := 0) (u := 0)
    (D := both d i qx qs fullShare.left fullShare.right X Sx A B I t hin)
    ι (rowCredit aV) (fun _ => rfl) (by decide) hin (show 0 + nRows ≤ nRows + nRows by decide) (Nat.zero_le _)
    (fun j => leftA_both d i qx qs fullShare.left fullShare.right X Sx A B I t hin j _)) $$ [Hx' Ha' Hi₁ HB]
  · isplitl [Hx']; · iexact Hx'
    isplitl [Ha']; · iexact Ha'
    isplitl [Hi₁]; · iexact Hi₁
    iexact HB
  iintro HB
  iapply (wp_gatherBatch (thr d i) EC 𝒱 bd (hg := gathers_S16384x128_S108x128) (src := table sV) (dst := bV) (offs := idxRow iV t) (j := 0 + nRows) (u := 0)
    (D := both d i qx qs fullShare.left fullShare.right X Sx A B I t hin)
    ι (rowCredit aV) (fun _ => rfl) (by decide) hin (show 0 + nRows + nRows ≤ nRows + nRows by decide) (Nat.zero_le _)
    (fun j => leftB_both d i qx qs fullShare.left fullShare.right X Sx A B I t hin j _)) $$ [Hs' Hb' Hi₂ HB]
  · isplitl [Hs']; · iexact Hs'
    isplitl [Hb']; · iexact Hb'
    isplitl [Hi₂]; · iexact Hi₂
    iexact HB
  iintro HB
  -- the waits
  ihave Hmw1 := (Transfers.MayWaits.elim (SemLoc.dma cc0_scratch4.sem)) $$ Hmw
  iapply (Transfers.wp_waitBatchMulO EC 𝒱 (thr d i) bd (N := rowCredit aV) ι nRows rfl (j := 0 + nRows + nRows) (u := 0)
    (D := both d i qx qs fullShare.left fullShare.right X Sx A B I t hin) (by decide)) $$ [HB HO Hmw1]
  · isplitl [HB]; · iexact HB
    isplitl [HO]; · iexact HO
    iexact Hmw1
  iintro ⟨HB, HO⟩
  ihave Hmw1 := (Transfers.MayWaits.elim (SemLoc.dma cc0_scratch4.sem)) $$ Hmw
  iapply (Transfers.wp_waitBatchAllO EC 𝒱 (thr d i) bd (N := rowCredit aV) ι rfl (by decide) (u := 0 + nRows * rowCredit aV)
    (D := both d i qx qs fullShare.left fullShare.right X Sx A B I t hin) (by decide)) $$ [HB HO Hmw1]
  · isplitl [HB]; · iexact HB
    isplitl [HO]; · iexact HO
    iexact Hmw1
  iintro ⟨HD, Hsem, HO⟩
  ihave HD2 := (Entails.of_eq (both_split d i qx qs fullShare.left fullShare.right X Sx A B I t hin)) $$ HD
  icases HD2 with ⟨HDa, HDb⟩
  ihave HDa2 := (rowsLeft_join (thr d i) (table xV) aV gathers_S16384x128_S108x128 (idxRow iV t) rfl qx fullShare.left X A I _ hin) $$ HDa
  ihave HDb2 := (rowsLeft_join (thr d i) (table sV) bV gathers_S16384x128_S108x128 (idxRow iV t) rfl qs fullShare.right Sx B I _ hin) $$ HDb
  icases HDa2 with ⟨Ha, Hx, Hi₁⟩
  icases HDb2 with ⟨Hb, Hs, Hi₂⟩
  ihave Hir := (pointsTo_share (PosShare.mem_left_op_right fullShare)).2 $$ [Hi₁ Hi₂]
  · isplitl [Hi₁]; · iexact Hi₁
    iexact Hi₂
  ihave Hi := (pointsTo_split_subset (ℓ := (iV).view.loc (thr d i)) (q := fullShare) (f := I) (S := Finset.univ) (Finset.subset_univ (idxRow iV t).view.set)).2 $$ [Hir Hirest]
  · isplitl [Hir]; · iexact Hir
    iexact Hirest
  ihave Ha' := (Entails.of_eq (show _ = (aPts d i (gathered X PG (wid i).val t.val) : sProp 𝕄) by
    rw [View.write_whole_univ, read_table_x, View.set_whole]
    exact congrArg (fun g => (aPts d i g : sProp 𝕄)) (payload_eq X PG I t (wid i).val hI _ hin))) $$ Ha
  ihave Hb' := (Entails.of_eq (show _ = (bPts d i (gathered Sx PG (wid i).val t.val) : sProp 𝕄) by
    rw [View.write_whole_univ, read_table_s, View.set_whole]
    exact congrArg (fun g => (bPts d i g : sProp 𝕄)) (payload_eq Sx PG I t (wid i).val hI _ hin))) $$ Hb
  -- the four queries
  iapply (wp_queries defs 𝒱 bd d i (gathered X PG (wid i).val t.val) (gathered Sx PG (wid i).val t.val) fo) $$ [Ha' Hb' Ho]
  · isplitl [Ha']; · iexact Ha'
    isplitl [Hb']; · iexact Hb'
    iexact Ho
  iintro ⟨Ha, Hb, Ho⟩
  -- the copy out
  ihave Ho' := (Entails.of_eq (show (oPts d i (chunkOut (gathered X PG (wid i).val t.val) (gathered Sx PG (wid i).val t.val)) : sProp 𝕄)
    = (oV).view.loc (thr d i) ↦[(oV).view.set]{fullShare} chunkOut (gathered X PG (wid i).val t.val) (gathered Sx PG (wid i).val t.val) by rw [View.set_whole])) $$ Ho
  iapply (Transfers.wp_dmaLocal EC 𝒱 (thr d i) bd ι ((oV).view.dmaCredit) rfl (by decide) (outRows_subset i t)) $$ [Ho' Hh Hsem1]
  · isplitl [Ho']; · iexact Ho'
    isplitl [Hh]; · iexact Hh
    iexact Hsem1
  iintro HF
  ihave Hmw1 := (Transfers.MayWaits.elim (SemLoc.dma cc0_scoped1.sem)) $$ Hmw
  iapply (Transfers.wp_waitLocalO EC 𝒱 (thr d i) bd ι (show (outRows i hV t).view.dmaCredit = (oV).view.dmaCredit from rfl)) $$ [HF HO Hmw1]
  · isplitl [HF]; · iexact HF
    isplitl [HO]; · iexact HO
    iexact Hmw1
  iintro ⟨⟨Hh, Ho⟩, Hsem1, HO⟩
  rw [wp_ret]; imodintro
  isplitr; · iexact Hmw
  isplitl [Hx]; · iapply (Entails.of_eq (show _ = (xPts d i qx X : sProp 𝕄) by rw [set_table_x])) $$ Hx
  isplitl [Hs]; · iapply (Entails.of_eq (show _ = (sPts d i qs Sx : sProp 𝕄) by rw [set_table_s])) $$ Hs
  isplitl [Hi]; · iexact Hi
  isplitl [Ha]; · iexists _; iexact Ha
  isplitl [Hb]; · iexists _; iexact Hb
  isplitl [Ho]
  · iexists (chunkOut (gathered X PG (wid i).val t.val) (gathered Sx PG (wid i).val t.val))
    iapply (Entails.of_eq (show _ = (oPts d i (chunkOut (gathered X PG (wid i).val t.val) (gathered Sx PG (wid i).val t.val)) : sProp 𝕄) by rw [View.set_whole])) $$ Ho
  isplitl [Hsem]; · iexact Hsem
  isplitl [Hsem1]; · iexact Hsem1
  isplitl [Hh]
  · iexists _
    isplitr
    rotate_left
    · iexact Hh
    · ipureintro
      intro x hx ht
      refine (write_outRows i t f _ x).trans ?_
      split
      · rename_i h
        rw [show ReadAs.same.apply _ = _ from rfl]
        unfold outVal
        rw [h.1, h.2]
        rfl
      · rename_i h
        exact hf x hx (by have := t.isLt; by_contra h'; exact h ⟨hx, by omega⟩)
  · iexists _
    isplitr
    rotate_left
    · iexact HO
    · ipureintro
      intro p hp
      simp only [Finset.mem_insert, Set.mem_insert_iff] at hp
      rcases hp with rfl | rfl | rfl | hp
      · exact .inr rfl
      · exact .inr rfl
      · exact .inr rfl
      · exact hW' p hp

end Cert.Proof.KernelBody

end
-- ==== Proof.TileBody.lean ====
/-
  The task of one vector subcore: from its index words, its shares of the two tables and its rows of the output, the body
  runs and leaves the call's values in those rows (`tile_body`).
-/
module

public import Idealize.ShloMosaic.Lib.SparseCore.Quiescent
public import Idealize.ShloMosaic.Lib.Pipeline.Frame
public import proofs.«01_k».proof.Proof.Chunk
public import proofs.«01_k».proof.Proof.BodyEq

@[expose] public section

noncomputable section

namespace Cert.Proof.KernelBody

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel
open Cert.Kernel.Facts₀

variable {F : FTy → Type}

local notation "xV" => (Memref.whole Cert.Kernel.main_v7_scv : Memref Cert.Kernel.sig Kind.scVector Space.hbm Cert.Kernel.S16384x128 EltTy.f32)
local notation "sV" => (Memref.whole Cert.Kernel.main_v8_scv : Memref Cert.Kernel.sig Kind.scVector Space.hbm Cert.Kernel.S16384x128 EltTy.f32)
local notation "pV" => (Memref.whole Cert.Kernel.main_v9_scv : Memref Cert.Kernel.sig Kind.scVector Space.hbm Cert.Kernel.S32x16x108 EltTy.i32)
local notation "hV" => (Memref.whole Cert.Kernel.main_v10_scv : Memref Cert.Kernel.sig Kind.scVector Space.hbm Cert.Kernel.S2048x128 EltTy.f32)
local notation "iV" => (Memref.whole Cert.Kernel.cc0_scratch0 : Memref Cert.Kernel.sig Kind.scVector Space.vmem Cert.Kernel.S16x108 EltTy.i32)
local notation "aV" => (Memref.whole Cert.Kernel.cc0_scratch1 : Memref Cert.Kernel.sig Kind.scVector Space.vmem Cert.Kernel.S108x128 EltTy.f32)
local notation "bV" => (Memref.whole Cert.Kernel.cc0_scratch2 : Memref Cert.Kernel.sig Kind.scVector Space.vmem Cert.Kernel.S108x128 EltTy.f32)
local notation "oV" => (Memref.whole Cert.Kernel.cc0_scratch3 : Memref Cert.Kernel.sig Kind.scVector Space.vmem Cert.Kernel.S4x128 EltTy.f32)

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The launch handshakes' rounds. -/
abbrev UH : Type := URounds (GSem nD τ sig) ℕ
/-- The ghost state: the handshakes' rounds and the transfers' counters. -/
abbrev UU : Type := UH × Counters

local notation "𝕄" => MT nD τ sig (HIx 1) (Elt F) ℕ UU ℕ

abbrev EH : Emb UH (MT nD τ sig (HIx 1) (Elt F) ℕ UU ℕ) := embL

abbrev xLoc (d : Dev nD) : Loc nD τ sig := (SparseCore.T d).loc main_v7
abbrev sLoc (d : Dev nD) : Loc nD τ sig := (SparseCore.T d).loc main_v8
abbrev pLoc (d : Dev nD) : Loc nD τ sig := (SparseCore.T d).loc main_v9
abbrev hLoc (d : Dev nD) : Loc nD τ sig := (SparseCore.T d).loc main_v10

/-- Tile `w`'s share of a table. -/
abbrev piece (w : Fin 32) : PosShare TreeShare := pieceOf fullShare 32 (by decide) w

/-- What tile `w` is handed, and brings back, with the output rows at `f`: its share of each table, its index words, its
    output rows. -/
abbrev part (X Sx : Dev nD → Table F) (PG : Dev nD → Words F) (f : Dev nD → OutArr F) (d : Dev nD) (w : Fin 32) : sProp 𝕄 :=
  iprop((xLoc d ↦{piece w} X d) ∗ (sLoc d ↦{piece w} Sx d) ∗ (pLoc d ↦[pSet w]{fullShare} PG d) ∗ (hLoc d ↦[oSet w]{fullShare} f d))

section Own

variable (d : Dev nD) (i : grid0.Coords)

/-- The tile's index-fetch semaphore. -/
abbrev cellA : GSem nD τ sig := (thr d i, .dma cc0_scoped0.sem)
/-- The tile's copy-out semaphore. -/
abbrev cellB : GSem nD τ sig := (thr d i, .dma cc0_scoped1.sem)
/-- The tile's gathers' semaphore. -/
abbrev cellC : GSem nD τ sig := (thr d i, .dma cc0_scratch4.sem)

theorem ownSems0_thr :
    (ownSems0 (thr d i) : sProp 𝕄)
      = iprop(semVal (cellA d i) 0 ∗ semVal (cellB d i) 0 ∗ semVal (cellC d i) 0
          ∗ bigSep ((((ownCells (thr d i)).erase (cellA d i)).erase (cellB d i)).erase (cellC d i)) fun g => semVal g 0) := by
  unfold SparseCore.Cfg.ownSems0
  rw [SparseCore.bigSep_erase' ((mem_ownCells (g := cellA d i)).mpr ⟨rfl, by
      show (SemLoc.dma cc0_scoped0.sem : SemLoc sig).isScoped .scVector = true; decide⟩),
    SparseCore.bigSep_erase' (Finset.mem_erase.mpr ⟨by simp [cellA, cellB]; decide, (mem_ownCells (g := cellB d i)).mpr ⟨rfl, by
      show (SemLoc.dma cc0_scoped1.sem : SemLoc sig).isScoped .scVector = true; decide⟩⟩),
    SparseCore.bigSep_erase' (Finset.mem_erase.mpr ⟨by simp [cellB, cellC]; decide, Finset.mem_erase.mpr ⟨by simp [cellA, cellC]; decide,
      (mem_ownCells (g := cellC d i)).mpr ⟨rfl, by show (SemLoc.dma cc0_scratch4.sem : SemLoc sig).isScoped .scVector = true; decide⟩⟩⟩)]

/-- A scratch buffer of the tile, whole, at some contents. -/
abbrev someBuf (b : Ref sig .scVector) : sProp 𝕄 := iprop(∃ f, (thr d i).loc b ↦{fullShare} f)

/-- The tile's other buffers. -/
def otherBufs : sProp 𝕄 :=
  bigSep (((((ownRefs (τ := τ) (sig := sig) (thr d i).2).erase ((thr d i).2.devRef cc0_scratch0)).erase ((thr d i).2.devRef cc0_scratch1)).erase
    ((thr d i).2.devRef cc0_scratch2)).erase ((thr d i).2.devRef cc0_scratch3)) fun b => iprop(∃ f, ((d, b) : Loc nD τ sig) ↦{fullShare} f)

theorem ownBufs_thr :
    (ownBufs (thr d i) : sProp 𝕄)
      = iprop(someBuf d i cc0_scratch0 ∗ someBuf d i cc0_scratch1 ∗ someBuf d i cc0_scratch2 ∗ someBuf d i cc0_scratch3 ∗ otherBufs d i) := by
  have hm : ∀ b : Ref sig .scVector, (Proc.devRef (thr d i).2 b).owner = .proc (thr d i).2 → Proc.devRef (thr d i).2 b ∈ ownRefs (τ := τ) (sig := sig) (thr d i).2 :=
    fun b h => SparseCore.Cfg.mem_ownRefs_of_owner h
  have hne : ∀ a b : Ref sig .scVector, a ≠ b → Proc.devRef (thr d i).2 a ≠ Proc.devRef (thr d i).2 b := fun a b h e => h (Proc.devRef_injective _ e)
  unfold SparseCore.Cfg.ownBufs
  refine (SparseCore.bigSep_erase' (hm cc0_scratch0 rfl)).trans ?_
  rw [
    SparseCore.bigSep_erase' (Finset.mem_erase.mpr ⟨hne cc0_scratch1 cc0_scratch0 (by decide), hm cc0_scratch1 rfl⟩),
    SparseCore.bigSep_erase' (Finset.mem_erase.mpr ⟨hne cc0_scratch2 cc0_scratch1 (by decide),
      Finset.mem_erase.mpr ⟨hne cc0_scratch2 cc0_scratch0 (by decide), hm cc0_scratch2 rfl⟩⟩),
    SparseCore.bigSep_erase' (Finset.mem_erase.mpr ⟨hne cc0_scratch3 cc0_scratch2 (by decide),
      Finset.mem_erase.mpr ⟨hne cc0_scratch3 cc0_scratch1 (by decide),
        Finset.mem_erase.mpr ⟨hne cc0_scratch3 cc0_scratch0 (by decide), hm cc0_scratch3 rfl⟩⟩⟩)]
  rfl

end Own

variable [FloatOps F]

set_option maxHeartbeats 4000000 in
/-- The task of one vector subcore. -/
theorem tile_body (X Sx : Dev nD → Table F) (PG : Dev nD → Words F) (f₀ : Dev nD → OutArr F) (hPG : ∀ d, InRange (PG d)) (d : Dev nD) (i : grid0.Coords)
    (hF : (K (F := F)).Facts) (O : CellTallies nD τ sig (HIx 1)) (W : Waits sig (HIx 1)) (hO : ∀ g, O g none = 0) :
    iprop(levAts (K (F := F)).L (K (F := F)).lev ∗ emp ∗ part X Sx PG f₀ d (wid i)
        ∗ scopedBufs (thr d i) ∗ scopedSems0 (thr d i) ∗ owes (thr d i) O W)
      ⊢ wp frame (wpE (defs₀ (F := F)) 𝒱₀ (thr d i) none) Set.univ
          (cc0__sc_attn_body i xV (Memref.isWhole_whole _) sV (Memref.isWhole_whole _) pV (Memref.isWhole_whole _) hV (Memref.isWhole_whole _)
            iV (Memref.isWhole_whole _) aV (Memref.isWhole_whole _) bV (Memref.isWhole_whole _) oV (Memref.isWhole_whole _) cc0_scratch4 cc0_scoped0 cc0_scoped1)
          fun _ => iprop(part X Sx PG (fun d => outVal (X d) (Sx d) (PG d)) d (wid i) ∗ scopedBufs (thr d i) ∗ scopedSems0 (thr d i)
            ∗ ∃ W', ⌜∀ p ∈ W', p ∈ W ∨ p.2 = none⌝ ∗ owes (thr d i) O W') := by
  rw [body_eq]
  rw [(K (F := F)).scopedBufs_V hF d ((i 0).castLE hcore0) ((i 1).castLE hsub0), SparseCore.Cfg.scopedSems0_V (Val := Elt F) d ((i 0).castLE hcore0) ((i 1).castLE hsub0),
    ownSems0_thr, ownBufs_thr]
  unfold tile
  iintro ⟨#Hlv, -, ⟨Hx, Hs, Hp, Hh⟩, ⟨⟨%fi, Hi⟩, Ha, Hb, Ho, HR⟩, ⟨HsemA, HsemB, HsemC, Hsems⟩, HO⟩
  ihave #Hmw := (show levAts (K (F := F)).L (K (F := F)).lev ⊢ Transfers.MayWaits (thr d i) (none : HIx 1) O from
    (K (F := F)).mayWaits_none (thr := thr d i) hO) $$ Hlv
  -- the fetch of the index words
  ihave Hp' := (Entails.of_eq (show (pLoc d ↦[pSet (wid i)]{fullShare} PG d : sProp 𝕄) = (pRow i).view.loc (thr d i) ↦[(pRow i).view.set]{fullShare} PG d by
    rw [set_pRow])) $$ Hp
  iapply (Transfers.wp_dmaLocal countersEmb 𝒱₀ (thr d i) none (none : HIx 1) ((iV).view.dmaCredit) rfl (by decide) (Finset.subset_univ (iV).view.set)) $$ [Hp' Hi HsemA]
  · isplitl [Hp']; · iexact Hp'
    isplitl [Hi]; · iexact Hi
    iexact HsemA
  iintro HF
  ihave Hmw1 := (Transfers.MayWaits.elim (SemLoc.dma cc0_scoped0.sem)) $$ Hmw
  iapply (Transfers.wp_waitLocalO countersEmb 𝒱₀ (thr d i) none (none : HIx 1) (show (iV).view.dmaCredit = (iV).view.dmaCredit from rfl)) $$ [HF HO Hmw1]
  · isplitl [HF]; · iexact HF
    isplitl [HO]; · iexact HO
    iexact Hmw1
  iintro ⟨⟨Hi, Hp⟩, HsemA, HO⟩
  have hI : ∀ x : S16x108.Idx, View.write (Elt F) (iV).view fi (ReadAs.same.apply ((pRow i).view.read (Elt F) (PG d))) Finset.univ x
      = PG d (wordIx (wid i).val (x 0).val (x 1).val) := fun x => by
    rw [View.write_whole_univ]; exact read_pRow i (PG d) x
  -- the chunks
  iapply (Scf.wp_for_bind frame (wpE (defs₀ (F := F)) 𝒱₀ (thr d i) none) Set.univ _ _ _ _ _ _
    (fun n _ => Inv d i (none : HIx 1) (piece (wid i)) (piece (wid i)) (X d) (Sx d) (PG d)
      (View.write (Elt F) (iV).view fi (ReadAs.same.apply ((pRow i).view.read (Elt F) (PG d))) Finset.univ) O W n)
    (fun t _ => chunk_step d i (defs₀ (F := F)) 𝒱₀ none countersEmb none _ _ (X d) (Sx d) (PG d) (hPG d) _ hI O W t)) $$ [Hx Hs Hi Ha Hb Ho HsemB HsemC Hh HO]
  · unfold Inv
    isplitr; · iexact Hmw
    isplitl [Hx]; · iexact Hx
    isplitl [Hs]; · iexact Hs
    isplitl [Hi]; · iexact Hi
    isplitl [Ha]; · iexact Ha
    isplitl [Hb]; · iexact Hb
    isplitl [Ho]; · iexact Ho
    isplitl [HsemC]; · iexact HsemC
    isplitl [HsemB]; · iexact HsemB
    isplitl [Hh]
    · iexists (f₀ d)
      isplitr
      · ipureintro; intro x _ h; exact absurd h (Nat.not_lt_zero _)
      · iexact Hh
    · iexists _
      isplitr
      rotate_left
      · iexact HO
      · ipureintro; intro p hp
        rcases Finset.mem_insert.mp hp with hp | hp
        · exact .inr (hp ▸ rfl)
        · exact .inl hp
  iintro %_ HI
  unfold Inv
  icases HI with ⟨-, Hx, Hs, Hi, Ha, Hb, Ho, HsemC, HsemB, ⟨%f, %hf, Hh⟩, HO⟩
  rw [wp_ret]; imodintro
  isplitl [Hx Hs Hp Hh]
  · isplitl [Hx]; · iexact Hx
    isplitl [Hs]; · iexact Hs
    isplitl [Hp]
    · iapply (Entails.of_eq (show ((pRow i).view.loc (thr d i) ↦[(pRow i).view.set]{fullShare} PG d : sProp 𝕄) = pLoc d ↦[pSet (wid i)]{fullShare} PG d by
        rw [set_pRow])) $$ Hp
    · iapply (Entails.of_eq (pointsTo_congr (ℓ := hLoc d) (I := oSet (wid i)) (q := fullShare) (f := f) (g := outVal (X d) (Sx d) (PG d)) fun x hx => by
        have h := (mem_oSet (wid i) x).mp hx
        exact hf x h (show (x 0).val % 64 / 4 < 16 by omega))) $$ Hh
  isplitl [Hi Ha Hb Ho HR]
  · isplitl [Hi]; · iexists _; iexact Hi
    isplitl [Ha]; · iexact Ha
    isplitl [Hb]; · iexact Hb
    isplitl [Ho]; · iexact Ho
    iexact HR
  isplitl [HsemA HsemB HsemC Hsems]
  · isplitl [HsemA]; · iexact HsemA
    isplitl [HsemB]; · iexact HsemB
    isplitl [HsemC]; · iexact HsemC
    iexact Hsems
  iexact HO

end Cert.Proof.KernelBody

end
-- ==== Proof.Launch.lean ====
/-
  The launch: the call's arrays split among the thirty-two tiles and joined again, @main on the TensorCore around the
  call, and the program's run (`run_main`): it ends with the result at the call's values reshaped, the arguments
  unchanged and every semaphore at zero.
-/
module

public import Idealize.ShloMosaic.Lib.StableHlo.Run
public import Idealize.ShloMosaic.Lib.SparseCore.Stream
public import proofs.«01_k».proof.Proof.TileBody

@[expose] public section

noncomputable section

namespace Cert.Proof.KernelBody

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel
open Cert.Kernel.Facts₀

variable {F : FTy → Type}

local notation "𝕄" => MT nD τ sig (HIx 1) (Elt F) ℕ UU ℕ

/-! ## The arrays split among the tiles -/

/-- The call's four arrays, whole, the output at `f`. -/
abbrev arrays (X Sx : Dev nD → Table F) (PG : Dev nD → Words F) (f : Dev nD → OutArr F) (d : Dev nD) : sProp 𝕄 :=
  iprop((xLoc d ↦{fullShare} X d) ∗ (sLoc d ↦{fullShare} Sx d) ∗ (pLoc d ↦{fullShare} PG d) ∗ (hLoc d ↦{fullShare} f d))

theorem words_split (d : Dev nD) (g : Words F) :
    (pLoc d ↦{fullShare} g : sProp 𝕄) = bigSep Finset.univ fun w : Fin 32 => pLoc d ↦[pSet w]{fullShare} g := by
  rw [← pointsTo_biUnion Finset.univ (ℓ := pLoc d) pSet fun i _ j _ h => Rect.part_disjoint pdiv h]
  exact congrArg (fun I => (pLoc d ↦[I]{fullShare} g : sProp 𝕄)) (Rect.biUnion_part pdiv).symm

theorem out_split (d : Dev nD) (g : OutArr F) :
    (hLoc d ↦{fullShare} g : sProp 𝕄) = bigSep Finset.univ fun w : Fin 32 => hLoc d ↦[oSet w]{fullShare} g := by
  rw [← pointsTo_biUnion Finset.univ (ℓ := hLoc d) oSet fun i _ j _ h => Rect.part_disjoint odiv h]
  exact congrArg (fun I => (hLoc d ↦[I]{fullShare} g : sProp 𝕄)) (Rect.biUnion_part odiv).symm

/-- The arrays are the tiles' parts of them, together. -/
theorem arrays_parts (X Sx : Dev nD → Table F) (PG : Dev nD → Words F) (f : Dev nD → OutArr F) (d : Dev nD) :
    arrays X Sx PG f d = bigSep Finset.univ fun w : Fin 32 => part X Sx PG f d w := by
  unfold arrays part
  rw [bigSep_sep', bigSep_sep', bigSep_sep', ← words_split, ← out_split]
  rw [← pointsTo_piecesOf (ℓ := xLoc d) Finset.univ (X d) (by decide : 0 < 32) fullShare,
    ← pointsTo_piecesOf (ℓ := sLoc d) Finset.univ (Sx d) (by decide : 0 < 32) fullShare]

/-- Tile number of core `c`, subcore `i`. -/
abbrev tileOf (c : Fin 2) (i : Fin 16) : Fin 32 := ⟨2 * i.val + c.val, by omega⟩

/-- The tiles, by core and subcore. -/
def tiles : Fin 2 × Fin 16 ≃ Fin 32 where
  toFun p := tileOf p.1 p.2
  invFun w := (⟨w.val % 2, by omega⟩, ⟨w.val / 2, by omega⟩)
  left_inv p := by
    obtain ⟨⟨c, hc⟩, ⟨i, hi⟩⟩ := p
    simp only [Prod.mk.injEq, Fin.mk.injEq]
    omega
  right_inv w := by
    apply Fin.ext
    show 2 * (w.val / 2) + w.val % 2 = w.val
    omega

theorem bigSep_tiles (Φ : Fin 32 → sProp 𝕄) :
    (bigSep Finset.univ fun w : Fin 32 => Φ w) = bigSep Finset.univ fun c : Fin 2 => bigSep Finset.univ fun i : Fin 16 => Φ (tileOf c i) :=
  (bigSep_univ_equiv tiles Φ).trans (bigSep_univ_prod fun p : Fin 2 × Fin 16 => Φ (tileOf p.1 p.2))

section Pay

variable (X Sx : Dev nD → Table F) (PG : Dev nD → Words F) (f₀ : Dev nD → OutArr F) [FloatOps F]

/-- The call's output on every device. -/
abbrev outs : Dev nD → OutArr F := fun d => outVal (X d) (Sx d) (PG d)

/-! ## What the handshakes carry -/

/-- A core takes and brings back its sixteen tiles' parts; a tile its own. -/
def P : (K (F := F)).Pay (nD := nD) (Val := Elt F) (Name := ℕ) (U := UU) where
  st := fun q d c => match q with | 0 => bigSep Finset.univ fun i : Fin 16 => part X Sx PG f₀ d (tileOf c i)
  dn := fun q d c => match q with | 0 => bigSep Finset.univ fun i : Fin 16 => part X Sx PG (outs X Sx PG) d (tileOf c i)
  go := fun q d c i => match q with | 0 => part X Sx PG f₀ d (tileOf c i)
  td := fun q d c i => match q with | 0 => part X Sx PG (outs X Sx PG) d (tileOf c i)
  x := fun _ _ => iprop(emp)

instance P_storable : (P X Sx PG f₀).IsStorable where
  st q d c := match q with
    | 0 => (inferInstance : BI.Storable (upEmb : UEmb _ 𝕄) (bigSep Finset.univ fun i : Fin 16 => part X Sx PG f₀ d (tileOf c i)))
  dn q d c := match q with
    | 0 => (inferInstance : BI.Storable (upEmb : UEmb _ 𝕄) (bigSep Finset.univ fun i : Fin 16 => part X Sx PG (outs X Sx PG) d (tileOf c i)))
  go q d c i := match q with
    | 0 => (inferInstance : BI.Storable (upEmb : UEmb _ 𝕄) (part X Sx PG f₀ d (tileOf c i)))
  td q d c i := match q with
    | 0 => (inferInstance : BI.Storable (upEmb : UEmb _ 𝕄) (part X Sx PG (outs X Sx PG) d (tileOf c i)))

theorem vecSplit : (K (F := F)).VecSplit' (P X Sx PG f₀) 0 := by
  intro d c
  show (bigSep Finset.univ fun i : Fin 16 => part X Sx PG f₀ d (tileOf c i)) ⊢ |={Set.univ}=> iprop(
      (bigSep Finset.univ fun i : Fin 16 => part X Sx PG f₀ d (tileOf c i))
      ∗ ((bigSep Finset.univ fun i : Fin 16 => part X Sx PG (outs X Sx PG) d (tileOf c i))
          -∗ bigSep Finset.univ fun i : Fin 16 => part X Sx PG (outs X Sx PG) d (tileOf c i)))
  iintro H; imodintro
  isplitl [H]; · iexact H
  iintro H; iexact H

/-- The whole arrays are what the call takes, -/
theorem st_arrays (d : Dev nD) : (bigSep Finset.univ fun c : Fin ((K (F := F)).nCore 0) => (P X Sx PG f₀).st 0 d c) = arrays X Sx PG f₀ d :=
  ((arrays_parts X Sx PG f₀ d).trans (bigSep_tiles fun w => part X Sx PG f₀ d w)).symm

/-- and what it brings back, the output filled. -/
theorem dn_arrays (d : Dev nD) :
    (bigSep Finset.univ fun c : Fin ((K (F := F)).nCore 0) => (P X Sx PG f₀).dn 0 d c) = arrays X Sx PG (outs X Sx PG) d :=
  ((arrays_parts X Sx PG (outs X Sx PG) d).trans (bigSep_tiles fun w => part X Sx PG (outs X Sx PG) d w)).symm

/-! ## The tiles' obligation -/

/-- A tile's place in the grid. -/
def place (c : Fin (grid0.bound 0)) (s : Fin (grid0.bound 1)) : grid0.Coords :=
  fun | 0 => c | 1 => s | ⟨_ + 2, h⟩ => absurd h (Nat.not_lt.2 (Nat.le_add_left _ _))

local notation "xV" => (Memref.whole Cert.Kernel.main_v7_scv : Memref Cert.Kernel.sig Kind.scVector Space.hbm Cert.Kernel.S16384x128 EltTy.f32)
local notation "sV" => (Memref.whole Cert.Kernel.main_v8_scv : Memref Cert.Kernel.sig Kind.scVector Space.hbm Cert.Kernel.S16384x128 EltTy.f32)
local notation "pV" => (Memref.whole Cert.Kernel.main_v9_scv : Memref Cert.Kernel.sig Kind.scVector Space.hbm Cert.Kernel.S32x16x108 EltTy.i32)
local notation "hV" => (Memref.whole Cert.Kernel.main_v10_scv : Memref Cert.Kernel.sig Kind.scVector Space.hbm Cert.Kernel.S2048x128 EltTy.f32)
local notation "iV" => (Memref.whole Cert.Kernel.cc0_scratch0 : Memref Cert.Kernel.sig Kind.scVector Space.vmem Cert.Kernel.S16x108 EltTy.i32)
local notation "aV" => (Memref.whole Cert.Kernel.cc0_scratch1 : Memref Cert.Kernel.sig Kind.scVector Space.vmem Cert.Kernel.S108x128 EltTy.f32)
local notation "bV" => (Memref.whole Cert.Kernel.cc0_scratch2 : Memref Cert.Kernel.sig Kind.scVector Space.vmem Cert.Kernel.S108x128 EltTy.f32)
local notation "oV" => (Memref.whole Cert.Kernel.cc0_scratch3 : Memref Cert.Kernel.sig Kind.scVector Space.vmem Cert.Kernel.S4x128 EltTy.f32)

theorem defs₀_tile (c : Fin τ.nSC) (s : Fin τ.nSub) :
    defs₀ (F := F) (.scVector c s) 0 ()
      = SparseCore.onTile hcore0 hsub0 (fun c s => cc0__sc_attn_body (place c s)
          xV (Memref.isWhole_whole _) sV (Memref.isWhole_whole _) pV (Memref.isWhole_whole _) hV (Memref.isWhole_whole _)
          iV (Memref.isWhole_whole _) aV (Memref.isWhole_whole _) bV (Memref.isWhole_whole _) oV (Memref.isWhole_whole _)
          cc0_scratch4 cc0_scoped0 cc0_scoped1) ⟨⟩ c s := rfl

theorem weaken_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hPG : ∀ d, InRange (PG d)) : (K (F := F)).TileObl (D (F := F)) 𝒱 (P X Sx PG f₀) v₀ 0 := by
  intro d c i O W hO _ _
  simp only [show (P X Sx PG f₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (tile_body X Sx PG f₀ hPG d (place ⟨_, hci.1⟩ ⟨_, hci.2⟩) launchFacts O W hO).trans (wp_mono frame _ _ fun _ => weaken_waits)

/-! ## The ghost state's launch element -/

/-- The handshakes' rounds at their start, no transfer counted. -/
def u₀ : UU := (initOf (K (F := F)).hsCells (K (F := F)).hsToks, 1)

theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P X Sx PG f₀).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P X Sx PG f₀).x q thr) = bigSep Finset.univ fun _ => iprop(emp) from
    bigSep_congr fun _ _ => bigSep_univ_of_subsingleton (0 : Fin 1), bigSep_nothing]
  iempintro

end Pay

/-! ## @main -/

section Main

variable [FloatOps F]

/-- The host operations before the call. -/
abbrev before : List (HloOp τ sig (Elt F)) :=
  [StableHlo.unary main_arg1 main_v0 (broadcastInDim S4x4096x128 ![0, 1, 2] bcast_S4x4096x1_S4x4096x128_0_1_2 : (⟨S4x4096x1, .f32⟩ : BufTy).Contents (Elt F) → (⟨S4x4096x128, .f32⟩ : BufTy).Contents (Elt F)),
   StableHlo.nullary main_v1 (iotaInDim S4 32 0),
   StableHlo.unary main_v1 main_v2 (broadcastInDim S4x1x1 ![0] bcast_S4_S4x1x1_0 : (⟨S4, .i32⟩ : BufTy).Contents (Elt F) → (⟨S4x1x1, .i32⟩ : BufTy).Contents (Elt F)),
   StableHlo.nullary main_c (constantI S_ 32 4096#32),
   StableHlo.unary main_c main_v3 (broadcastInDim S4x1x1 ![] bcast_S_S4x1x1 : (⟨S_, .i32⟩ : BufTy).Contents (Elt F) → (⟨S4x1x1, .i32⟩ : BufTy).Contents (Elt F)),
   StableHlo.binary main_v2 main_v3 main_v4 (muli : (⟨S4x1x1, .i32⟩ : BufTy).Contents (Elt F) → (⟨S4x1x1, .i32⟩ : BufTy).Contents (Elt F) → (⟨S4x1x1, .i32⟩ : BufTy).Contents (Elt F)),
   StableHlo.unary main_v4 main_v5 (broadcastInDim S4x512x27 ![0, 1, 2] bcast_S4x1x1_S4x512x27_0_1_2 : (⟨S4x1x1, .i32⟩ : BufTy).Contents (Elt F) → (⟨S4x512x27, .i32⟩ : BufTy).Contents (Elt F)),
   StableHlo.binary main_arg2 main_v5 main_v6 (addi : (⟨S4x512x27, .i32⟩ : BufTy).Contents (Elt F) → (⟨S4x512x27, .i32⟩ : BufTy).Contents (Elt F) → (⟨S4x512x27, .i32⟩ : BufTy).Contents (Elt F)),
   StableHlo.reshape main_arg0 main_v7 (rfl : (.f32 : EltTy) = .f32) shapeCasts_S4x4096x128_S16384x128,
   StableHlo.reshape main_v0 main_v8 (rfl : (.f32 : EltTy) = .f32) shapeCasts_S4x4096x128_S16384x128,
   StableHlo.reshape main_v6 main_v9 (rfl : (.i32 : EltTy) = .i32) shapeCasts_S4x512x27_S32x16x108]

/-- The host operations after it. -/
abbrev behind : List (HloOp τ sig (Elt F)) :=
  [StableHlo.reshape main_v10 main_v11 (rfl : (.f32 : EltTy) = .f32) shapeCasts_S2048x128_S4x512x128]

theorem main_eq (d : Dev nD) : main (F := F) d = StableHlo.seq before >>= fun _ => (sc (F := F)).run d 0 >>= fun _ => StableHlo.seq behind >>= fun _ => pure ⟨⟩ := by
  rw [StableHlo.seq_bind_seqK]
  rfl

variable (m : (ℓ : Loc nD τ sig) → Buf (Elt F) ℓ) (ρ : Dev nD → PrngReg)

/-- Device `d`'s buffers at the launch, -/
def V0 (d : Dev nD) : Valuation τ sig (Elt F) := fun b => m (d, b)
/-- at the call, -/
def V1 (d : Dev nD) : Valuation τ sig (Elt F) := StableHlo.after before (V0 m d)
abbrev Xm : Dev nD → Table F := fun d => V1 m d (Proc.devRef .tc main_v7)
abbrev Sm : Dev nD → Table F := fun d => V1 m d (Proc.devRef .tc main_v8)
abbrev PGm : Dev nD → Words F := fun d => V1 m d (Proc.devRef .tc main_v9)
abbrev Om : Dev nD → OutArr F := fun d => V1 m d (Proc.devRef .tc main_v10)
/-- after it, -/
def V2 (d : Dev nD) : Valuation τ sig (Elt F) := Function.update (V1 m d) (Proc.devRef .tc main_v10) (outVal (Xm m d) (Sm m d) (PGm m d))
/-- and at the end. -/
def V3 (d : Dev nD) : Valuation τ sig (Elt F) := StableHlo.after behind (V2 m d)

/-- The call's arrays among the buffers. -/
abbrev callRefs : Finset (DevRef τ sig) :=
  {Proc.devRef .tc main_v7, Proc.devRef .tc main_v8, Proc.devRef .tc main_v9, Proc.devRef .tc main_v10}

theorem callRefs_sub : callRefs ⊆ Pipeline.ucRefs τ sig := by decide

theorem held_callRefs (d : Dev nD) (W : Valuation τ sig (Elt F)) :
    (StableHlo.held (d.tc : Thread nD τ) callRefs W : sProp 𝕄)
      = iprop((xLoc d ↦{fullShare} W (Proc.devRef .tc main_v7)) ∗ (sLoc d ↦{fullShare} W (Proc.devRef .tc main_v8))
          ∗ (pLoc d ↦{fullShare} W (Proc.devRef .tc main_v9)) ∗ (hLoc d ↦{fullShare} W (Proc.devRef .tc main_v10))) := by
  unfold StableHlo.held callRefs
  rw [SparseCore.bigSep_insert' (by decide), SparseCore.bigSep_insert' (by decide), SparseCore.bigSep_insert' (by decide), bigSep_singleton]

theorem held_before (d : Dev nD) :
    (StableHlo.held (d.tc : Thread nD τ) (Pipeline.ucRefs τ sig) (V1 m d) : sProp 𝕄)
      = iprop(arrays (Xm m) (Sm m) (PGm m) (Om m) d ∗ StableHlo.held (d.tc : Thread nD τ) (Pipeline.ucRefs τ sig \ callRefs) (V1 m d)) := by
  rw [StableHlo.held_sub_split _ callRefs_sub, held_callRefs]

theorem held_behind (d : Dev nD) :
    (StableHlo.held (d.tc : Thread nD τ) (Pipeline.ucRefs τ sig) (V2 m d) : sProp 𝕄)
      = iprop(arrays (Xm m) (Sm m) (PGm m) (outs (Xm m) (Sm m) (PGm m)) d
          ∗ StableHlo.held (d.tc : Thread nD τ) (Pipeline.ucRefs τ sig \ callRefs) (V1 m d)) := by
  rw [StableHlo.held_sub_split _ callRefs_sub, held_callRefs]
  have hne : ∀ b ∈ Pipeline.ucRefs τ sig \ callRefs, V2 m d b = V1 m d b := fun b hb =>
    Function.update_of_ne (fun e => (Finset.mem_sdiff.mp hb).2 (by rw [e]; decide)) _ _
  rw [StableHlo.held_congr _ hne]
  unfold V2
  rw [Function.update_self, Function.update_of_ne (by decide), Function.update_of_ne (by decide), Function.update_of_ne (by decide)]

theorem before_sub : ∀ op ∈ (before : List (HloOp τ sig (Elt F))), op.bufs ⊆ Pipeline.ucRefs τ sig := by
  intro op hop
  refine Pipeline.sub_ucRefs op ?_
  simp only [before, List.mem_cons, List.not_mem_nil, or_false] at hop
  rcases hop with rfl | rfl | rfl | rfl | rfl | rfl | rfl | rfl | rfl | rfl | rfl <;> simp

theorem behind_sub : ∀ op ∈ (behind : List (HloOp τ sig (Elt F))), op.bufs ⊆ Pipeline.ucRefs τ sig := by
  intro op hop
  refine Pipeline.sub_ucRefs op ?_
  simp only [behind, List.mem_cons, List.not_mem_nil, or_false] at hop
  subst hop; simp

theorem before_fresh : ∀ op ∈ (before : List (HloOp τ sig (Elt F))), op.fresh = ∅ := by
  intro op hop
  simp only [before, List.mem_cons, List.not_mem_nil, or_false] at hop
  rcases hop with rfl | rfl | rfl | rfl | rfl | rfl | rfl | rfl | rfl | rfl | rfl <;> rfl

theorem behind_fresh : ∀ op ∈ (behind : List (HloOp τ sig (Elt F))), op.fresh = ∅ := by
  intro op hop
  simp only [behind, List.mem_cons, List.not_mem_nil, or_false] at hop
  subst hop; rfl

/-- What the TensorCore ends with: every buffer, at the end's contents. -/
abbrev FIN (d : Dev nD) : sProp 𝕄 := StableHlo.held (d.tc : Thread nD τ) (Pipeline.ucRefs τ sig) (V3 m d)

/-- @main on device `d`'s TensorCore: the host operations, the call on the arrays they left, the host operations behind it. -/
theorem hmain (κ : GSem nD τ sig → ℕ) (d : Dev nD) :
    iprop((K (F := F)).ctx EH (P (Xm m) (Sm m) (PGm m) (Om m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq]
  rw [show (unscopedBufs d (fun b => m ((SparseCore.T d).loc b)) : sProp 𝕄) = StableHlo.held (d.tc : Thread nD τ) (Pipeline.ucRefs τ sig) (V0 m d) from
    Pipeline.unscopedBufs_held d (V0 m d)]
  iintro ⟨#Hctx, Hst, ⟨Hb, Hh, Hts, -⟩, -⟩
  iapply (StableHlo.wp_seq 𝒱 none Set.univ d (Pipeline.ucRefs τ sig) _ before before_sub before_fresh (V0 m d)) $$ [Hb Hh]
  · isplitl [Hb] <;> iassumption
  iintro ⟨Hb, Hh⟩
  ihave Hh' := (Entails.of_eq (show (StableHlo.held (d.tc : Thread nD τ) (Pipeline.ucRefs τ sig) (StableHlo.after before (V0 m d)) : sProp 𝕄) = _ from
    held_before m d)) $$ Hh
  icases Hh' with ⟨Harr, Hrest⟩
  rw [wp_bind]
  iapply ((K (F := F)).wp_run (D (F := F)) 𝒱 (EH := EH) (P := P (Xm m) (Sm m) (PGm m) (Om m)) κ d 0) $$ [Hst Harr Hrest Hb Hts]
  isplitr; · iexact Hctx
  isplitl [Hst]; · iexact Hst
  isplitl [Harr]
  · rw [st_arrays]; iexact Harr
  iintro ⟨Hst, Hdn⟩
  ihave Harr := (Entails.of_eq (dn_arrays (Xm m) (Sm m) (PGm m) (Om m) d)) $$ Hdn
  ihave Hh := (Entails.of_eq (held_behind m d).symm) $$ [Harr Hrest]
  · isplitl [Harr] <;> iassumption
  iapply (StableHlo.wp_seq 𝒱 none Set.univ d (Pipeline.ucRefs τ sig) _ behind behind_sub behind_fresh (V2 m d)) $$ [Hb Hh]
  · isplitl [Hb] <;> iassumption
  iintro ⟨Hb, Hh⟩
  rw [wp_pure]
  imodintro
  isplitl [Hst]; · iexact Hst
  isplitl [Hh]; · iexact Hh
  isplitl [Hb] <;> iassumption

/-- Every buffer of device `d`'s TensorCore, but the scoped ones, ends at the end's contents. -/
def fq (d : Dev nD) (s' : Phys nD τ sig (Elt F)) : Prop := ∀ b ∈ Pipeline.ucRefs τ sig, s'.mem.mem (d, b) = V3 m d b

theorem held_read (d : Dev nD) (W : Valuation τ sig (Elt F)) (s' : Phys nD τ sig (Elt F)) (R : Finset (DevRef τ sig)) :
    iprop(StableHlo.held (d.tc : Thread nD τ) R W ∗ SI s') ⊢ (⌜∀ b ∈ R, s'.mem.mem (d, b) = W b⌝ : sProp 𝕄) := by
  classical
  induction R using Finset.induction_on with
  | empty => iintro -; ipureintro; intro b hb; exact absurd hb (Finset.notMem_empty b)
  | insert a R ha ih =>
    unfold StableHlo.held at ih ⊢
    rw [SparseCore.bigSep_insert' ha]
    iintro ⟨⟨Ha, HR⟩, HSI⟩
    ihave H := (persistent_entails_right (SI_pointsTo_agree (st := s') (ℓ := (d, a)) (I := Finset.univ) (q := fullShare) (f := W a))) $$ [HSI Ha]
    · isplitl [HSI] <;> iassumption
    icases H with ⟨%h1, HSI, -⟩
    ihave H := ih $$ [HSI HR]
    · isplitl [HR] <;> iassumption
    icases H with %h2
    ipureintro
    intro b hb
    rcases Finset.mem_insert.mp hb with rfl | hb
    · exact funext fun i => h1 i (Finset.mem_univ i)
    · exact h2 b hb

theorem hfin (d : Dev nD) (s' : Phys nD τ sig (Elt F)) : iprop(FIN m d ∗ SI s') ⊢ (⌜fq m d s'⌝ : sProp 𝕄) :=
  held_read d (V3 m d) s' _

/-- The run: every buffer at the end's contents, every semaphore at zero. -/
def QC : PUnit × MemSt nD τ sig (Elt F) → Prop := fun r => (∀ d : Dev nD, ∀ b ∈ Pipeline.ucRefs τ sig, r.2.mem (d, b) = V3 m d b) ∧ r.2.sem = fun _ => 0

/-- From a memory whose index words, as the host code leaves them, name rows of the tables, the program runs to its end. -/
theorem run_main [∀ e, Nonempty (Elt F e)] (hPG : ∀ d, InRange (PGm m d)) :
    θ_run (Cert.Kernel.defs (F := F)) (Cert.Kernel.threads (F := F)) ⟨m, fun _ => 0, ρ⟩ (QC m) :=
  SparseCore.Cfg.θ_run_sc_quiescent (K := K (F := F)) (D := D (F := F)) (𝒱 := 𝒱) (EH := EH) (P := P (Xm m) (Sm m) (PGm m) (Om m)) (A := ∅) launchFacts v₀
    (fun q hq => match q with | 0 => nomatch hq)
    (fun q _ => match q with | 0 => tileObl (Xm m) (Sm m) (PGm m) (Om m) hPG)
    (fun q _ => match q with | 0 => SparseCore.Cfg.VecSplit.of_plain (vecSplit (Xm m) (Sm m) (PGm m) (Om m)))
    m ρ main (fun _ => iprop(emp)) (FIN m) (u₀ (F := F)) (sep_elim_left.trans (hu₀ (Xm m) (Sm m) (PGm m) (Om m))) (hmain m ρ) (fq m) (hfin m) (QC m) (fun _ h hz => ⟨h, hz⟩)

end Main

end Cert.Proof.KernelBody

end
-- ==== Proof.Values.lean ====
/-
  What the call is handed, and what the precondition says of it: every index is below 4096, so every word of the
  call's index array names a row of the tables.
-/
module

public import Idealize.ShloMosaic.Lib.Pointwise
public import Idealize.ShloMosaic.Lib.ReduceAll
public import Idealize.ShloMosaic.Lib.Tactic.WordOmega
public import Idealize.ShloMosaic.Lib.StableHlo.RunRead
public import proofs.«01_k».proof.Pre_idx_in_range
public import proofs.«01_k».proof.Proof.Gen.Pre_idx_in_range
public import proofs.«01_k».proof.Proof.Launch

@[expose] public section

set_option maxRecDepth 16384

noncomputable section

namespace Cert.Proof.KernelBody

open Idealize.ShloMosaic
open Idealize.SL.Sem
open Cert.Kernel
open Cert.Kernel.Facts₀

variable {F : FTy → Type} [FloatOps F] (m : (ℓ : Loc nD τ sig) → Buf (Elt F) ℓ)

/-- The features, the scores and the indices that device `d` starts with. -/
abbrev arg0 (d : Dev nD) : FVec F S4x4096x128 .f32 := m (d, Proc.devRef .tc main_arg0)
abbrev arg1 (d : Dev nD) : FVec F S4x4096x1 .f32 := m (d, Proc.devRef .tc main_arg1)
abbrev arg2 (d : Dev nD) : IVec S4x512x27 32 := m (d, Proc.devRef .tc main_arg2)

theorem Xm_eq (d : Dev nD) : Xm m d = shapeCast S16384x128 (arg0 m d) shapeCasts_S4x4096x128_S16384x128 := by
  show StableHlo.after before (V0 m d) (Proc.devRef .tc main_v7) = _
  unfold before
  after_reads_simp
  rfl

theorem Sm_eq (d : Dev nD) : Sm m d = shapeCast S16384x128
    (broadcastInDim S4x4096x128 ![0, 1, 2] bcast_S4x4096x1_S4x4096x128_0_1_2 (arg1 m d)) shapeCasts_S4x4096x128_S16384x128 := by
  show StableHlo.after before (V0 m d) (Proc.devRef .tc main_v8) = _
  unfold before
  after_reads_simp
  rfl

/-- A word of the call's index array: the index argument's, moved by its batch's 4096 rows. -/
theorem PGm_eq (d : Dev nD) (b : Fin 4) (q : Fin 512) (k : Fin 27) (w : Fin 32) (t : Fin 16) (r : Fin 108)
    (hb : w.val / 8 = b.val) (hq : w.val % 8 * 64 + t.val * 4 + r.val / 27 = q.val) (hk : r.val % 27 = k.val) :
    PGm m d (ix3 w t r) = IntOp.addi (arg2 m d (ix3 b q k)) (IntOp.muli (BitVec.ofNat 32 b.val) 4096#32) := by
  show StableHlo.after before (V0 m d) (Proc.devRef .tc main_v9) (ix3 w t r) = _
  unfold before
  after_reads_simp
  pointwise
  simp only [hb, hq, hk]
  rfl

/-! ## The precondition -/

/-- Every index is below 4096. -/
def Small (d : Dev nD) : Prop := ∀ x, (arg2 m d x).toNat < 4096

theorem small_of_bits (a : IVec S4x512x27 32) (x : S4x512x27.Idx)
    (h : IntOp.andi (IntOp.cmpi .sge (a x) 0#32) (IntOp.cmpi .slt (a x) 4096#32) = 1#1) : (a x).toNat < 4096 := by
  word_omega

/-- A word of the call's index array, as a number. -/
theorem word_toNat (d : Dev nD) (h : Small m d) (b : Fin 4) (q : Fin 512) (k : Fin 27) (w : Fin 32) (t : Fin 16) (r : Fin 108)
    (hb : w.val / 8 = b.val) (hq : w.val % 8 * 64 + t.val * 4 + r.val / 27 = q.val) (hk : r.val % 27 = k.val) :
    (PGm m d (ix3 w t r) : BitVec 32).toNat = b.val * 4096 + (arg2 m d (ix3 b q k)).toNat := by
  rw [PGm_eq m d b q k w t r hb hq hk]
  have hs := h (ix3 b q k)
  have hb4 := b.isLt
  show (arg2 m d (ix3 b q k) + BitVec.ofNat 32 b.val * 4096#32).toNat = _
  rw [BitVec.toNat_add, BitVec.toNat_mul, BitVec.toNat_ofNat, show (4096#32).toNat = 4096 from rfl]
  omega

theorem inRange_of_small (d : Dev nD) (h : Small m d) : InRange (PGm m d) := by
  intro x
  obtain ⟨w, t, r, rfl⟩ : ∃ (w : Fin 32) (t : Fin 16) (r : Fin 108), x = ix3 w t r := ⟨x 0, x 1, x 2, eq_ix3 x⟩
  have hw := w.isLt; have ht := t.isLt; have hr := r.isLt
  have e := word_toNat m d h ⟨w.val / 8, by omega⟩ ⟨w.val % 8 * 64 + t.val * 4 + r.val / 27, by omega⟩
    ⟨r.val % 27, by omega⟩ w t r rfl rfl rfl
  have hs := h (ix3 ⟨w.val / 8, by omega⟩ ⟨w.val % 8 * 64 + t.val * 4 + r.val / 27, by omega⟩ ⟨r.val % 27, by omega⟩)
  rw [e]
  show w.val / 8 * 4096 + _ < _
  omega

/-- The precondition bounds every index. -/
theorem small_of_pre (d : Dev nD) (h : Cert.Pre_idx_in_range.fn (F := F) (arg0 m d) (arg1 m d) (arg2 m d) = fun _ => 1#1) :
    Small m d := by
  have e := congrFun h ix0
  unfold Cert.Pre_idx_in_range.fn at e
  intro x
  have : Subsingleton Cert.Pre_idx_in_range.S_.Idx := ⟨fun a b => funext fun i => i.elim0⟩
  exact small_of_bits _ x (Host.reduce_andi_all _ _ _ _ _ e x)

/-! ## The gathered rows -/

/-- The feature row of neighbour `k` of query `q` of batch `b`, as the tile that has the query gathers it. -/
theorem features_at (d : Dev nD) (h : Small m d) (b : Fin 4) (q : Fin 512) (k : Fin 27) (x : Fin 128) :
    gathered (Xm m d) (PGm m d) ((b.val * 512 + q.val) / 64) ((b.val * 512 + q.val) % 64 / 4)
      (rowIx ((b.val * 512 + q.val) % 4 * 27 + k.val) x.val)
      = arg0 m d (ix3 b ⟨(arg2 m d (ix3 b q k)).toNat, h _⟩ x) := by
  have hb := b.isLt; have hq := q.isLt; have hk := k.isLt; have hx := x.isLt
  have hs := h (ix3 b q k)
  have e : (PGm m d (wordIx ((b.val * 512 + q.val) / 64) ((b.val * 512 + q.val) % 64 / 4) (((b.val * 512 + q.val) % 4 * 27 + k.val) % 108)) : BitVec 32).toNat
      = b.val * 4096 + (arg2 m d (ix3 b q k)).toNat := by
    rw [eq_ix3 (wordIx _ _ _)]
    exact word_toNat m d h b q k _ _ _ (by show (b.val * 512 + q.val) / 64 % 32 / 8 = _; omega)
      (by show (b.val * 512 + q.val) / 64 % 32 % 8 * 64 + (b.val * 512 + q.val) % 64 / 4 % 16 * 4
            + ((b.val * 512 + q.val) % 4 * 27 + k.val) % 108 % 108 / 27 = _; omega)
      (by show ((b.val * 512 + q.val) % 4 * 27 + k.val) % 108 % 108 % 27 = _; omega)
  show Xm m d (tabIx (PGm m d (wordIx _ _ _) : BitVec 32).toNat (x.val % 128)) = _
  rw [e, Xm_eq, eq_ix2 (tabIx _ _)]
  pointwise
  refine congrArg (arg0 m d) ?_
  refine (ix3_inj _ _ _ _ _ _).mpr ⟨Fin.ext ?_, Fin.ext ?_, Fin.ext ?_⟩
  · show (b.val * 4096 + (arg2 m d (ix3 b q k)).toNat) % 16384 / 4096 = _; omega
  · show (b.val * 4096 + (arg2 m d (ix3 b q k)).toNat) % 16384 % 4096 = (arg2 m d (ix3 b q k)).toNat; omega
  · show x.val % 128 % 128 = _; omega

/-- Its score, in every lane. -/
theorem scores_at (d : Dev nD) (h : Small m d) (b : Fin 4) (q : Fin 512) (k : Fin 27) (x : ℕ) :
    gathered (Sm m d) (PGm m d) ((b.val * 512 + q.val) / 64) ((b.val * 512 + q.val) % 64 / 4)
      (rowIx ((b.val * 512 + q.val) % 4 * 27 + k.val) x)
      = arg1 m d (ix3 b ⟨(arg2 m d (ix3 b q k)).toNat, h _⟩ 0) := by
  have hb := b.isLt; have hq := q.isLt; have hk := k.isLt
  have hs := h (ix3 b q k)
  have e : (PGm m d (wordIx ((b.val * 512 + q.val) / 64) ((b.val * 512 + q.val) % 64 / 4) (((b.val * 512 + q.val) % 4 * 27 + k.val) % 108)) : BitVec 32).toNat
      = b.val * 4096 + (arg2 m d (ix3 b q k)).toNat := by
    rw [eq_ix3 (wordIx _ _ _)]
    exact word_toNat m d h b q k _ _ _ (by show (b.val * 512 + q.val) / 64 % 32 / 8 = _; omega)
      (by show (b.val * 512 + q.val) / 64 % 32 % 8 * 64 + (b.val * 512 + q.val) % 64 / 4 % 16 * 4
            + ((b.val * 512 + q.val) % 4 * 27 + k.val) % 108 % 108 / 27 = _; omega)
      (by show ((b.val * 512 + q.val) % 4 * 27 + k.val) % 108 % 108 % 27 = _; omega)
  show Sm m d (tabIx (PGm m d (wordIx _ _ _) : BitVec 32).toNat (x % 128)) = _
  rw [e, Sm_eq, eq_ix2 (tabIx _ _)]
  pointwise
  refine congrArg (arg1 m d) ?_
  refine (ix3_inj _ _ _ _ _ _).mpr ⟨Fin.ext ?_, Fin.ext ?_, rfl⟩
  · show (b.val * 4096 + (arg2 m d (ix3 b q k)).toNat) % 16384 / 4096 = _; omega
  · show (b.val * 4096 + (arg2 m d (ix3 b q k)).toNat) % 16384 % 4096 = (arg2 m d (ix3 b q k)).toNat; omega

/-! ## The result and the arguments in the final memory -/

theorem V3_result (d : Dev nD) (b : Fin 4) (q : Fin 512) (x : Fin 128) :
    V3 m d (Proc.devRef .tc main_v11) (ix3 b q x)
      = outVal (Xm m d) (Sm m d) (PGm m d) (ix2 ⟨b.val * 512 + q.val, by omega⟩ x) := by
  show StableHlo.after behind (V2 m d) (Proc.devRef .tc main_v11) (ix3 b q x) = _
  unfold behind
  after_reads_simp
  pointwise
  show Function.update (V1 m d) (Proc.devRef .tc main_v10) (outVal (Xm m d) (Sm m d) (PGm m d)) (Proc.devRef .tc main_v10) _ = _
  rw [Function.update_self]

theorem V3_arg0 (d : Dev nD) : V3 m d (Proc.devRef .tc main_arg0) = m (d, Proc.devRef .tc main_arg0) := by
  show StableHlo.after behind (V2 m d) (Proc.devRef .tc main_arg0) = _
  unfold behind
  after_reads_simp
  show Function.update (V1 m d) (Proc.devRef .tc main_v10) _ (Proc.devRef .tc main_arg0) = _
  rw [Function.update_of_ne (by decide)]
  show StableHlo.after before (V0 m d) (Proc.devRef .tc main_arg0) = _
  unfold before
  after_reads_simp
  rfl

theorem V3_arg1 (d : Dev nD) : V3 m d (Proc.devRef .tc main_arg1) = m (d, Proc.devRef .tc main_arg1) := by
  show StableHlo.after behind (V2 m d) (Proc.devRef .tc main_arg1) = _
  unfold behind
  after_reads_simp
  show Function.update (V1 m d) (Proc.devRef .tc main_v10) _ (Proc.devRef .tc main_arg1) = _
  rw [Function.update_of_ne (by decide)]
  show StableHlo.after before (V0 m d) (Proc.devRef .tc main_arg1) = _
  unfold before
  after_reads_simp
  rfl

theorem V3_arg2 (d : Dev nD) : V3 m d (Proc.devRef .tc main_arg2) = m (d, Proc.devRef .tc main_arg2) := by
  show StableHlo.after behind (V2 m d) (Proc.devRef .tc main_arg2) = _
  unfold behind
  after_reads_simp
  show Function.update (V1 m d) (Proc.devRef .tc main_v10) _ (Proc.devRef .tc main_arg2) = _
  rw [Function.update_of_ne (by decide)]
  show StableHlo.after before (V0 m d) (Proc.devRef .tc main_arg2) = _
  unfold before
  after_reads_simp
  rfl

end Cert.Proof.KernelBody

end
-- ==== Proof.Rows.lean ====
/-
  A batched gather of rows read at an index: the operand at the row that the start index names.
-/
module

public import Idealize.ShloMosaic.Lib.Pointwise
public import Idealize.ShloMosaic.PureOps

@[expose] public section

noncomputable section

namespace Cert.Proof.Rows

open Idealize.ShloMosaic

variable {α : Type}

/-- Dimension numbers that take, in each of four batches, `n` rows of `C` entries out of 4096. -/
abbrev dims {n : ℕ} (C : ℕ) (wf : GatherDims.WF ⟨3, ![4, 4096, C]⟩ ⟨3, ![4, n, 1]⟩ ⟨3, ![4, n, C]⟩ [2] [1] [0] [1] [0] 2 ![1, 1, C]) :
    GatherDims ⟨3, ![4, 4096, C]⟩ ⟨3, ![4, n, 1]⟩ ⟨3, ![4, n, C]⟩ where
  offsetDims := [2]
  collapsedSliceDims := [1]
  operandBatchingDims := [0]
  startIndicesBatchingDims := [0]
  startIndexMap := [1]
  indexVectorDim := 2
  sliceSizes := ![1, 1, C]
  wf := wf

/-- Entry `c` of row `j` of batch `b` is entry `c` of the operand's row that start index `(b, j)` names, clamped. -/
theorem gather_at {n : ℕ} (C : ℕ) (wf) (x : (⟨3, ![4, 4096, C]⟩ : Shape).Idx → α) (i : IVec ⟨3, ![4, n, 1]⟩ 32)
    (b : Fin 4) (j : Fin n) (c : Fin C) :
    Host.gather (dims C wf) x i (ix3 b j c) = x (ix3 b ⟨min (i (ix3 b j 0)).toInt.toNat 4095, by omega⟩ c) := by
  have e : (dims C wf).siIdx (ix3 b j c) ⟨0, Nat.one_pos⟩ = ix3 b j 0 := funext fun
    | 0 => rfl
    | 1 => rfl
    | 2 => rfl
  show x ((dims C wf).operandIdx (ix3 b j c) i) = _
  refine congrArg x (funext fun
    | 0 => Fin.ext ?_
    | 1 => Fin.ext ?_
    | 2 => Fin.ext ?_)
  · show 0 + b.val + 0 = b.val
    omega
  · show min (i ((dims C wf).siIdx (ix3 b j c) ⟨0, Nat.one_pos⟩)).toInt.toNat 4095 + 0 + 0 = min (i (ix3 b j 0)).toInt.toNat 4095
    rw [e]
    omega
  · show 0 + 0 + c.val = c.val
    omega

end Cert.Proof.Rows

end
-- ==== Proof.Weighted.lean ====
/-
  The value both programs compute over the extended reals: each query's neighbours' features, weighted by their scores
  over the scores' sum; and what the reference's index words come to where every index is below 4096.
-/
module

public import Idealize.ShloMosaic.Lib.Pointwise
public import Idealize.ShloMosaic.Lib.ReduceAll
public import Idealize.ShloMosaic.Lib.StableHlo.Predicate
public import Idealize.ShloMosaic.Lib.Tactic.WordOmega
public import proofs.«01_k».proof.Pre_sums_nonzero
public import proofs.«01_k».proof.Proof.Rows

@[expose] public section

set_option maxRecDepth 16384

noncomputable section

namespace Cert.Proof.Weighted

open Idealize.ShloMosaic

/-- The shapes of the features, the scores, the indices and the result. -/
abbrev SX : Shape := ⟨3, ![4, 4096, 128]⟩
abbrev SS : Shape := ⟨3, ![4, 4096, 1]⟩
abbrev SP : Shape := ⟨3, ![4, 512, 27]⟩
abbrev SO : Shape := ⟨3, ![4, 512, 128]⟩

variable (x : FVec Ideal SX .f32) (s : FVec Ideal SS .f32) (p : IVec SP 32)

/-- Every index is below 4096. -/
def Below : Prop := ∀ i, (p i).toNat < 4096

/-- The row of neighbour `k` of query `q` of batch `b`. -/
def nbr (b : Fin 4) (q : Fin 512) (k : Fin 27) : Fin 4096 := ⟨min (p (ix3 b q k)).toNat 4095, by omega⟩

/-- Its score. -/
def score (b : Fin 4) (q : Fin 512) (k : Fin 27) : EReal := s (ix3 b (nbr p b q k) 0)

/-- Entry `c` of its features. -/
def feature (b : Fin 4) (q : Fin 512) (c : Fin 128) (k : Fin 27) : EReal := x (ix3 b (nbr p b q k) c)

/-- The sum of a query's scores. -/
def total (b : Fin 4) (q : Fin 512) : EReal := ∑ k, score s p b q k

/-- The features weighted by each score over the sum. -/
def result : FVec Ideal SO .f32 := fun i =>
  ∑ k, Ideal.div (score s p (i 0) (i 1) k) (total s p (i 0) (i 1)) * feature x p (i 0) (i 1) (i 2) k

/-- Over a sum that is not zero, a score over the sum is the score times one over the sum. -/
theorem div_eq_mul (a t : EReal) (h : t ≠ 0) : Ideal.div a t = a * Ideal.div 1 t := by
  unfold Ideal.div
  rw [if_neg h, if_neg h, one_mul]

/-! ## Index words below 4096 -/

theorem wrap_eq (w : BitVec 32) (h : w.toNat < 4096) :
    Scalar.select (IntOp.cmpi .slt w 0#32) (IntOp.addi w 4096#32) w = w := by
  have e : IntOp.cmpi .slt w 0#32 = 0#1 := by word_omega
  rw [e]
  rfl

theorem inside_eq (w : BitVec 32) (h : w.toNat < 4096) :
    IntOp.andi (IntOp.cmpi .sge w 0#32) (IntOp.cmpi .sle w 4095#32) = 1#1 := by
  word_omega

theorem clamp_eq (w : BitVec 32) (h : w.toNat < 4096) : min w.toInt.toNat 4095 = min w.toNat 4095 := by
  have e : w.toInt = w.toNat := by
    rw [BitVec.toInt_eq_toNat_cond, if_pos (by omega)]
  rw [e]
  rfl

/-- A run of one bit, all of it set. -/
theorem fold_one : Finset.fold IntOp.andi (1#1) (fun _ : Fin 1 => 1#1) Finset.univ = 1#1 := by decide

/-! ## What the precondition says -/

instance facts : Cert.Pre_sums_nonzero.Facts where
  shapeCasts_S4x512x27_S4x13824x1 := by decide
  bcast_S_S4x13824x1 := by decide
  bcast_S1_S1x1x1_2 := by decide
  bcast_S1x1x1_S4x13824x1_0_1_2 := by decide
  reducesTo_S4x13824x1_S4x13824_d2 := by decide
  h_S_ := by decide
  bcast_S4x13824_S4x13824x1_0_1 := by decide
  shapeCasts_S4x13824x1_S4x512x27x1 := by decide
  bcast_S_S4x512x27 := by decide
  reducesTo_S4x512x27_S_d0_1_2 := by decide
  reducesTo_S4x512x27x1_S4x512x1_d2 := by decide
  bcast_S_S4x512x1 := by decide
  reducesTo_S4x512x1_S_d0_1_2 := by decide
  gather_S4x4096x1_S4x13824x1_S4x13824x1_2_1_0_0_1_2_111_wf := by decide

theorem gather_at (y : FVec Ideal SS .f32) (i : IVec Cert.Pre_sums_nonzero.S4x13824x1 32) (b : Fin 4) (j : Fin 13824) (c : Fin 1) :
    Host.gather Cert.Pre_sums_nonzero.gather_S4x4096x1_S4x13824x1_S4x13824x1_2_1_0_0_1_2_111 y i (ix3 b j c)
      = y (ix3 b ⟨min (i (ix3 b j 0)).toInt.toNat 4095, by omega⟩ c) :=
  Rows.gather_at 1 _ y i b j c

theorem below_of_bits (i : SP.Idx)
    (h : IntOp.andi (IntOp.cmpi .sge (p i) 0#32) (IntOp.cmpi .slt (p i) 4096#32) = 1#1) : (p i).toNat < 4096 := by
  word_omega

theorem pre_parts (h : Cert.Pre_sums_nonzero.fn (F := Ideal) x s p = fun _ => 1#1) :
    Below p ∧ ∀ b q, total s p b q ≠ 0 := by
  have e := congrFun h ix0
  unfold Cert.Pre_sums_nonzero.fn at e
  have sub : Subsingleton Cert.Pre_sums_nonzero.S_.Idx := ⟨fun a b => funext fun i => i.elim0⟩
  obtain ⟨e1, e2⟩ := IntOp.andi_eq_one.1 e
  have hb : Below p := fun i => below_of_bits p i (Host.reduce_andi_all _ _ _ _ _ e1 i)
  refine ⟨hb, fun b q => ?_⟩
  have e3 := Host.reduce_andi_all _ _ _ _ _ e2 (ix3 b q 0)
  clear e e1 e2 h
  unfold Cert.Pre_sums_nonzero.fn_take_along_axis at e3
  pointwise [gather_at] at e3
  have hq : ∀ k : Fin 27, (q.val * 27 + k.val) / 27 = q.val := fun k => by omega
  have hk : ∀ k : Fin 27, (q.val * 27 + k.val) % 27 = k.val := fun k => by omega
  simp only [hq, hk, Fin.eta, wrap_eq _ (hb _), inside_eq _ (hb _), clamp_eq _ (hb _), fold_one, ValueIdx.select_one] at e3
  exact of_decide_eq_true ((StableHlo.Predicate.ofBool_eq_one_iff _).1 e3)

end Cert.Proof.Weighted

end
-- ==== Proof.Sums.lean ====
/-
  Over the extended reals the call's result is the weighted sum of Weighted.lean, wherever the indices are below 4096
  and no query's scores sum to zero.
-/
module

public import Idealize.ShloMosaic.Lib.IdealHost
public import proofs.«01_k».proof.Proof.Values
public import proofs.«01_k».proof.Proof.Weighted

@[expose] public section

set_option maxRecDepth 16384

noncomputable section

namespace Cert.Proof.KernelBody

open Idealize.ShloMosaic
open Idealize.SL.Sem
open Cert.Kernel
open Cert.Proof.Weighted (Below nbr score feature total result)

/-! ## Lists of vectors, lane by lane -/

section Lists

variable (f g : ℕ → FVec Ideal S16 .f32) (l : S16.Idx)

theorem foldl_lane (ks : List ℕ) (a : FVec Ideal S16 .f32) :
    (ks.map f).foldl addf a l = a l + (ks.map fun r => f r l).sum := by
  induction ks generalizing a with
  | nil => exact (add_zero _).symm
  | cons k ks ih =>
    rw [List.map_cons, List.foldl_cons, ih, List.map_cons, List.sum_cons, ← add_assoc]
    rfl

/-- A sum of vectors is, in each lane, the sum of the lane. -/
theorem vsum_lane (k : ℕ) (ks : List ℕ) : vsum ((k :: ks).map f) l = ((k :: ks).map fun r => f r l).sum := by
  rw [List.map_cons, List.map_cons, List.sum_cons]
  exact foldl_lane f l ks (f k)

theorem accV_lane (ks : List ℕ) (a : FVec Ideal S16 .f32) :
    accV (ks.map f) (ks.map g) a l = a l + (ks.map fun r => f r l * g r l).sum := by
  induction ks generalizing a with
  | nil => exact (add_zero _).symm
  | cons k ks ih =>
    show accV (ks.map f) (ks.map g) (addf a (mulf (f k) (g k))) l = _
    rw [ih, List.map_cons, List.sum_cons, ← add_assoc]
    rfl

/-- A weighted sum of vectors is, in each lane, the weighted sum of the lane. -/
theorem wsumV_lane (k : ℕ) (ks : List ℕ) :
    wsumV ((k :: ks).map f) ((k :: ks).map g) l = ((k :: ks).map fun r => f r l * g r l).sum := by
  show _ = (f k l * g k l :: ks.map fun r => f r l * g r l).sum
  rw [List.sum_cons]
  exact accV_lane f g l ks (mulf (f k) (g k))

end Lists

theorem rows27_eq (q : ℕ) : rows27 q = (List.finRange 27).map fun k : Fin 27 => q * 27 + k.val := rfl

theorem sum_rows27 (q : ℕ) (f : ℕ → EReal) : ((rows27 q).map f).sum = ∑ k : Fin 27, f (q * 27 + k.val) := by
  rw [rows27_eq, List.map_map, Fin.sum_univ_def]
  rfl

/-- One lane of one query: the features times their weights, added up. -/
theorem queryV_lane (A B : Rows Ideal) (q c : ℕ) (l : S16.Idx) :
    queryV A B q c l = ∑ k : Fin 27,
      vecAt B (q * 27 + k.val) 0 l * Ideal.div 1 (∑ j : Fin 27, vecAt B (q * 27 + j.val) 0 l) * vecAt A (q * 27 + k.val) c l := by
  have hs := vsum_lane (fun r => vecAt B r 0) l (q * 27 + 0) (rows27 q).tail
  rw [show (q * 27 + 0) :: (rows27 q).tail = rows27 q from rfl, sum_rows27] at hs
  unfold queryV weights
  rw [List.map_map]
  have hw := wsumV_lane ((fun s => mulf s (divf (broadcast S16 (Scalar.ofBits .f32 0x3F800000#32)) (vsum ((rows27 q).map fun r => vecAt B r 0)))) ∘ fun r => vecAt B r 0)
    (fun r => vecAt A r c) l (q * 27 + 0) (rows27 q).tail
  rw [show (q * 27 + 0) :: (rows27 q).tail = rows27 q from rfl, sum_rows27] at hw
  refine hw.trans (Finset.sum_congr rfl fun k _ => ?_)
  show vecAt B (q * 27 + k.val) 0 l * Ideal.div (Ideal.ofBits .f32 0x3F800000#32) (vsum ((rows27 q).map fun r => vecAt B r 0) l) * _ = _
  rw [hs, Ideal.ofBits_one_f32]

/-- The lane of a vector read from row `r` that holds column `x`. -/
theorem vecAt_lane (A : Rows Ideal) (r x : ℕ) (hx : x < 128) : vecAt A r (x % 128 / 16) (laneOf (x % 128)) = A (rowIx r x) :=
  congrArg (fun y => A (rowIx r y)) (show x % 128 / 16 % 8 * 16 + x % 128 % 16 = x by omega)

/-! ## The call's result -/

variable (m : (ℓ : Loc nD τ sig) → Buf (Elt Ideal) ℓ)

theorem nbr_of_small (d : Dev nD) (h : Small m d) (b : Fin 4) (q : Fin 512) (k : Fin 27) :
    nbr (arg2 m d) b q k = ⟨(arg2 m d (ix3 b q k)).toNat, h _⟩ :=
  Fin.ext (Nat.min_eq_left (Nat.le_of_lt_succ (h (ix3 b q k))))

/-- Row `512b + q` of the call's result is query `q` of batch `b`'s weighted sum. -/
theorem outVal_eq (d : Dev nD) (h : Small m d) (ht : ∀ b q, total (arg1 m d) (arg2 m d) b q ≠ 0)
    (b : Fin 4) (q : Fin 512) (x : Fin 128) :
    outVal (Xm m d) (Sm m d) (PGm m d) (ix2 ⟨b.val * 512 + q.val, by omega⟩ x)
      = result (arg0 m d) (arg1 m d) (arg2 m d) (ix3 b q x) := by
  have hx := x.isLt
  show queryV (gathered (Xm m d) (PGm m d) ((b.val * 512 + q.val) / 64) ((b.val * 512 + q.val) % 64 / 4))
    (gathered (Sm m d) (PGm m d) ((b.val * 512 + q.val) / 64) ((b.val * 512 + q.val) % 64 / 4))
    ((b.val * 512 + q.val) % 4) (x.val % 128 / 16) (laneOf (x.val % 128)) = _
  rw [queryV_lane]
  have hB : ∀ k : Fin 27, vecAt (gathered (Sm m d) (PGm m d) ((b.val * 512 + q.val) / 64) ((b.val * 512 + q.val) % 64 / 4))
      ((b.val * 512 + q.val) % 4 * 27 + k.val) 0 (laneOf (x.val % 128)) = score (arg1 m d) (arg2 m d) b q k := fun k => by
    unfold score
    rw [nbr_of_small m d h]
    exact scores_at m d h b q k _
  have hA : ∀ k : Fin 27, vecAt (gathered (Xm m d) (PGm m d) ((b.val * 512 + q.val) / 64) ((b.val * 512 + q.val) % 64 / 4))
      ((b.val * 512 + q.val) % 4 * 27 + k.val) (x.val % 128 / 16) (laneOf (x.val % 128)) = feature (arg0 m d) (arg2 m d) b q x k := fun k => by
    unfold feature
    rw [nbr_of_small m d h, vecAt_lane _ _ _ hx]
    exact features_at m d h b q k x
  simp only [hA, hB]
  refine Finset.sum_congr rfl fun k _ => ?_
  exact congrArg (· * feature (arg0 m d) (arg2 m d) b q x k) (Weighted.div_eq_mul _ _ (ht b q)).symm

end Cert.Proof.KernelBody

end
-- ==== Proof.Reference.lean ====
/-
  The reference's run: its result is the weighted sum of Weighted.lean wherever every index is below 4096, and its
  arguments end unchanged.
-/
module

public import Idealize.ShloMosaic.Lib.Claim
public import Idealize.ShloMosaic.Lib.Tactic.CleanTypes
public import Idealize.ShloMosaic.Lib.StableHlo.RunHlo
public import proofs.«01_k».proof.ReferenceIdeal
public import proofs.«01_k».proof.Proof.Gen.ReferenceIdeal
public import proofs.«01_k».proof.Proof.Weighted

@[expose] public section

set_option maxRecDepth 16384

noncomputable section

namespace Cert.Proof.RefValue

open Idealize.ShloMosaic
open Idealize.SL.Sem
open Cert.ReferenceIdeal
open Cert.ReferenceIdeal.Facts₀
open Cert.Proof.Weighted

theorem features_gather (x : FVec Ideal S4x4096x128 .f32) (i : IVec S4x13824x1 32) (b : Fin 4) (j : Fin 13824) (c : Fin 128) :
    Host.gather gather_S4x4096x128_S4x13824x1_S4x13824x128_2_1_0_0_1_2_11128 x i (ix3 b j c)
      = x (ix3 b ⟨min (i (ix3 b j 0)).toInt.toNat 4095, by omega⟩ c) :=
  Rows.gather_at 128 _ x i b j c

theorem scores_gather (x : FVec Ideal S4x4096x1 .f32) (i : IVec S4x13824x1 32) (b : Fin 4) (j : Fin 13824) (c : Fin 1) :
    Host.gather gather_S4x4096x1_S4x13824x1_S4x13824x1_2_1_0_0_1_2_111 x i (ix3 b j c)
      = x (ix3 b ⟨min (i (ix3 b j 0)).toInt.toNat 4095, by omega⟩ c) :=
  Rows.gather_at 1 _ x i b j c

/-- Every run of the reference, from indices below 4096, ends with the weighted sums as its result. -/
theorem run (m : (ℓ : Loc nD τ sig) → Buf (Elt Ideal) ℓ) (g : Dev nD → PrngReg)
    (hb : ∀ c : Dev nD, Below (m ((c.tc : Thread nD τ).loc main_arg2))) :
    θ_run (Cert.ReferenceIdeal.defs (F := Ideal)) (onTc (τ := τ) (Cert.ReferenceIdeal.main (F := Ideal))) ⟨m, fun _ => 0, g⟩
      (fun r => ∀ c : Dev nD,
        r.2.mem ((c.tc : Thread nD τ).loc main_v12)
            = result (m ((c.tc : Thread nD τ).loc main_arg0)) (m ((c.tc : Thread nD τ).loc main_arg1)) (m ((c.tc : Thread nD τ).loc main_arg2))
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)) := by
  hlo_run
  funext i
  obtain ⟨b, q, x, rfl⟩ : ∃ (b : Fin 4) (q : Fin 512) (x : Fin 128), i = ix3 b q x := ⟨i 0, i 1, i 2, eq_ix3 i⟩
  simp -implicitDefEqProofs only [StableHlo.TRef.toBuf, StableHlo.TRef.ofBuf, cast_cast, cast_eq]
  clean_types
  pointwise [features_gather, scores_gather]
  have hq : ∀ k : Fin 27, (q.val * 27 + k.val) / 27 = q.val := fun k => by omega
  have hk : ∀ k : Fin 27, (q.val * 27 + k.val) % 27 = k.val := fun k => by omega
  have hc := hb c
  simp only [hq, hk, Fin.eta, wrap_eq _ (hc _), inside_eq _ (hc _), clamp_eq _ (hc _), fold_one, ValueIdx.select_one]
  rfl

end Cert.Proof.RefValue

end
-- ==== Proof.SelectRun.lean ====
/- What a run of the three TensorCore calls ends with: every array of the program at the contents `W4`, at which the
   last call leaves it, and every semaphore at zero. -/
module

public import proofs.«01_k».proof.Proof.Gen.SelectIdeal.Frame

@[expose] public section

set_option maxRecDepth 16384

noncomputable section

namespace Cert.Proof.SelectRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SelectIdeal Cert.SelectIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => (∀ c : Dev nD,
      ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨fun c => h c, funext fun g => hz g (.inr (no_unscoped g.2))⟩)

/-- The four results and the arguments. -/
theorem results : θ_run defs (onTc (τ := τ) (main (F := F))) ⟨m, fun _ => 0, ρ⟩ (fun r => ∀ c : Dev nD,
      r.2.mem ((c.tc : Thread nD τ).loc main_v2_2) = W4 m ρ c (Proc.devRef .tc main_v2_2)
      ∧ r.2.mem ((c.tc : Thread nD τ).loc main_v2_0) = W4 m ρ c (Proc.devRef .tc main_v2_0)
      ∧ r.2.mem ((c.tc : Thread nD τ).loc main_v3_0) = W4 m ρ c (Proc.devRef .tc main_v3_0)
      ∧ r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h.1 c _ (mem_uc main_v2_2 (by decide)), h.1 c _ (mem_uc main_v2_0 (by decide)), h.1 c _ (mem_uc main_v3_0 (by decide)),
      h.1 c _ (mem_uc main_v4 (by decide)),
      (h.1 c _ (mem_uc main_arg0 (by decide))).trans (W4_main_arg0 m ρ c),
      (h.1 c _ (mem_uc main_arg1 (by decide))).trans (W4_main_arg1 m ρ c),
      (h.1 c _ (mem_uc main_arg2 (by decide))).trans (W4_main_arg2 m ρ c),
      (h.1 c _ (mem_uc main_arg3 (by decide))).trans (W4_main_arg3 m ρ c),
      (h.1 c _ (mem_uc main_arg4 (by decide))).trans (W4_main_arg4 m ρ c),
      (h.1 c _ (mem_uc main_arg5 (by decide))).trans (W4_main_arg5 m ρ c)⟩) (run m ρ)

end Cert.Proof.SelectRun

end
-- ==== Proof.SelectOrder.lean ====
/- Positions in the order of their keys. `before key i j` says that `i` comes before `j`: its key is smaller, or the
   keys are equal and `i` is the earlier position. `place key r` is the position that a stable sort of the keys,
   smallest first, puts at `r`. Three facts: exactly `r` positions come before `place key r`; a stable sort under any
   comparison that reads "smaller key" finds the same positions; and, where no key is `⊤`, the position of the first
   smallest entry, after the entries at the first `t` places are overwritten by `⊤`, is the place `t`. -/
module

public import Idealize.ShloMosaic.Lib.SortPrefix
public import Mathlib.Data.EReal.Basic

@[expose] public section

namespace Cert.Proof.SelectOrder

open Idealize.ShloMosaic

variable {n : Nat}

/-- `i` comes before `j`: a smaller key, or the same key at an earlier position. -/
noncomputable def before (key : Fin n → EReal) (i j : Fin n) : Bool := by
  classical exact decide (key i < key j ∨ (key i = key j ∧ i < j))

theorem before_iff (key : Fin n → EReal) (i j : Fin n) :
    before key i j = true ↔ (key i < key j ∨ (key i = key j ∧ i < j)) := by
  unfold before; exact decide_eq_true_iff

theorem before_total (key : Fin n → EReal) : StrictTotalBefore (before key) where
  irrefl a := by
    rw [← Bool.not_eq_true, before_iff]
    rintro (h | ⟨-, h⟩)
    · exact lt_irrefl _ h
    · exact lt_irrefl _ h
  trans a b c hab hbc := by
    rw [before_iff] at hab hbc ⊢
    rcases hab with hab | ⟨eab, lab⟩ <;> rcases hbc with hbc | ⟨ebc, lbc⟩
    · exact .inl (hab.trans hbc)
    · exact .inl (ebc ▸ hab)
    · exact .inl (eab ▸ hbc)
    · exact .inr ⟨eab.trans ebc, lab.trans lbc⟩
  total a b hne := by
    rw [before_iff, before_iff]
    rcases lt_trichotomy (key a) (key b) with h | h | h
    · exact .inl (.inl h)
    · rcases lt_or_gt_of_ne hne with hlt | hgt
      · exact .inl (.inr ⟨h, hlt⟩)
      · exact .inr (.inr ⟨h.symm, hgt⟩)
    · exact .inr (.inl h)

/-- The position that comes `r`-th. -/
noncomputable def place (key : Fin n → EReal) (r : Fin n) : Fin n := sortedFrom (before key) r

theorem place_injective (key : Fin n → EReal) : Function.Injective (place key) := sortedFrom_injective _

theorem place_surjective (key : Fin n → EReal) : Function.Surjective (place key) := sortedFrom_surjective _

theorem place_mono (key : Fin n → EReal) {r s : Fin n} (h : r < s) : before key (place key r) (place key s) = true := by
  have hB := before_total key
  have h1 := sortedFrom_noInversion (before key) (before key) (fun a b => hB.asymm a b) (fun _ _ h => h) hB.negTrans r s h
  rcases hB.total (place key r) (place key s) (fun e => absurd (place_injective key e) (ne_of_lt h)) with h2 | h2
  · exact h2
  · have h3 : before key (place key s) (place key r) = false := h1
    rw [h3] at h2; exact absurd h2 (by decide)

theorem before_place_iff (key : Fin n → EReal) (r s : Fin n) : before key (place key r) (place key s) = true ↔ r < s := by
  refine ⟨fun h => ?_, place_mono key⟩
  by_contra hn
  rcases lt_or_eq_of_le (not_lt.mp hn) with h1 | h1
  · rw [(before_total key).asymm _ _ (place_mono key h1)] at h; exact absurd h (by decide)
  · rw [h1, (before_total key).irrefl] at h; exact absurd h (by decide)

/-- Exactly `r` positions come before the place `r`. -/
theorem card_before_place (key : Fin n → EReal) (r : Fin n) :
    (Finset.univ.filter fun i => before key i (place key r) = true).card = r.val := by
  have h : (Finset.univ.filter fun i => before key i (place key r) = true) = (Finset.univ.filter fun s : Fin n => s < r).image (place key) := by
    ext i
    simp only [Finset.mem_filter, Finset.mem_univ, true_and, Finset.mem_image]
    constructor
    · intro hi
      obtain ⟨s, rfl⟩ := place_surjective key i
      exact ⟨s, (before_place_iff key s r).mp hi, rfl⟩
    · rintro ⟨s, hs, rfl⟩
      exact place_mono key hs
  rw [h, Finset.card_image_of_injective _ (place_injective key)]
  have h2 : (Finset.univ.filter fun s : Fin n => s < r) = Finset.Iio r := by ext s; simp
  rw [h2, Fin.card_Iio]

/-- The number of positions before `i` tells its place. -/
theorem card_before_eq_iff (key : Fin n → EReal) (i r : Fin n) :
    (Finset.univ.filter fun j => before key j i = true).card = r.val ↔ i = place key r := by
  constructor
  · intro h
    obtain ⟨s, rfl⟩ := place_surjective key i
    rw [card_before_place] at h
    rw [Fin.ext h]
  · rintro rfl
    exact card_before_place key r

/-- A stable sort by "smaller key" of positions given in increasing order is the sort by `before`. -/
theorem stableSort_lt (key : Fin n → EReal) (lt : Fin n → Fin n → Bool) (hlt : ∀ i j, lt i j = true ↔ key i < key j) :
    ∀ l : List (Fin n), l.Pairwise (· < ·) → stableSort lt l = stableSort (before key) l
  | [], _ => rfl
  | a :: l, hl => by
    rw [List.pairwise_cons] at hl
    unfold stableSort
    rw [stableSort_lt key lt hlt l hl.2]
    refine insertBefore_congr _ _ a _ fun b hb => ?_
    have hab : a < b := hl.1 b ((perm_stableSort _ l).mem_iff.mp hb)
    rw [Bool.eq_iff_iff, hlt, before_iff]
    exact ⟨.inl, fun h => h.elim id fun h => absurd h.2 (not_lt.mpr hab.le)⟩

theorem sortedFrom_lt (key : Fin n → EReal) (lt : Fin n → Fin n → Bool) (hlt : ∀ i j, lt i j = true ↔ key i < key j) (r : Fin n) :
    sortedFrom lt r = place key r := by
  have h : sortPositions n lt = sortPositions n (before key) :=
    stableSort_lt key lt hlt _ (List.pairwise_lt_finRange n)
  unfold place sortedFrom
  rw [List.get_of_eq h]
  rfl

/-! ## Taking the smallest, one at a time -/

/-- The keys with the first `t` places overwritten by `⊤`. -/
noncomputable def masked (key : Fin n → EReal) (t : Nat) (i : Fin n) : EReal := by
  classical exact if ∃ s : Fin n, s.val < t ∧ place key s = i then ⊤ else key i

theorem masked_zero (key : Fin n → EReal) : masked key 0 = key := by
  funext i
  unfold masked
  rw [if_neg]
  rintro ⟨s, hs, -⟩
  exact absurd hs (Nat.not_lt_zero _)

theorem masked_succ (key : Fin n → EReal) (t : Fin n) (i : Fin n) :
    masked key (t.val + 1) i = if i = place key t then ⊤ else masked key t.val i := by
  unfold masked
  by_cases h : i = place key t
  · rw [if_pos ⟨t, Nat.lt_succ_self _, h.symm⟩, if_pos h]
  · rw [if_neg h]
    refine if_congr ⟨?_, ?_⟩ rfl rfl
    · rintro ⟨s, hs, e⟩
      rcases Nat.lt_succ_iff_lt_or_eq.mp hs with h1 | h1
      · exact ⟨s, h1, e⟩
      · exact absurd (by rw [← e, Fin.ext h1]) h
    · rintro ⟨s, hs, e⟩
      exact ⟨s, Nat.lt_succ_of_lt hs, e⟩

theorem masked_place (key : Fin n → EReal) (t : Fin n) : masked key t.val (place key t) = key (place key t) := by
  unfold masked
  rw [if_neg]
  rintro ⟨s, hs, e⟩
  exact absurd (congrArg Fin.val (place_injective key e)) (Nat.ne_of_lt hs)

/-- The place `t` holds the smallest remaining entry. -/
theorem masked_le (key : Fin n → EReal) (t : Fin n) (i : Fin n) : key (place key t) ≤ masked key t.val i := by
  unfold masked
  split
  · exact le_top
  · rename_i h
    obtain ⟨s, rfl⟩ := place_surjective key i
    have hs : t ≤ s := not_lt.mp fun hlt => h ⟨s, hlt, rfl⟩
    rcases lt_or_eq_of_le hs with h1 | h1
    · rcases (before_iff _ _ _).mp (place_mono key h1) with h2 | h2
      · exact h2.le
      · exact h2.1.le
    · rw [h1]

/-- It is the first position that holds it, the keys being below `⊤`. -/
theorem masked_first (key : Fin n → EReal) (hkey : ∀ i, key i < ⊤) (t : Fin n) (i : Fin n)
    (h : masked key t.val i = key (place key t)) : place key t ≤ i := by
  unfold masked at h
  split at h
  · exact absurd h.symm (hkey _).ne
  · rename_i hn
    obtain ⟨s, rfl⟩ := place_surjective key i
    have hs : t ≤ s := not_lt.mp fun hlt => hn ⟨s, hlt, rfl⟩
    rcases lt_or_eq_of_le hs with h1 | h1
    · rcases (before_iff _ _ _).mp (place_mono key h1) with h2 | h2
      · exact absurd h.symm h2.ne
      · exact h2.2.le
    · rw [h1]

end Cert.Proof.SelectOrder

end
-- ==== Proof.SelectBlocks.lean ====
/- The arrays that the three TensorCore calls write, each batch's block a function of the batch's blocks of the arrays
   the call reads. -/
module

public import Idealize.ShloMosaic.Lib.Pipeline.ValueKit
public import Idealize.ShloMosaic.Lib.ValueIdx
public import proofs.«01_k».proof.Proof.Gen.SelectIdeal.Frame

@[expose] public section

set_option maxRecDepth 16384

noncomputable section

namespace Cert.Proof.SelectBlocks

open Idealize.ShloMosaic Idealize.ShloMosaic.TcCoe Idealize.ShloMosaic.Tactic
open Idealize.SL Idealize.SL.RA Idealize.SL.BI
open Cert.SelectIdeal Cert.SelectIdeal.Gen

variable {F : FTy → Type} [FloatOps F]
variable (V : (c : Dev nD) → (b : Ref sig .tc) → Buf (Elt F) ((c : Thread nD τ).loc b)) (c : Dev nD)

/-- Batch `b` of an array of four. -/
def batch {n k : Nat} {T : Type} (X : Shape.Idx ⟨3, ![4, n, k]⟩ → T) (b : Fin 4) : Shape.Idx ⟨3, ![1, n, k]⟩ → T :=
  fun i => X (ix3 b ⟨(i 1).val, (i 1).isLt⟩ ⟨(i 2).val, (i 2).isLt⟩)

/-- The array of four whose batch `b` is `f b`. -/
def unbatch {n k : Nat} {T : Type} (f : Fin 4 → Shape.Idx ⟨3, ![1, n, k]⟩ → T) : Shape.Idx ⟨3, ![4, n, k]⟩ → T :=
  fun i => f ⟨(i 0).val, (i 0).isLt⟩ (ix3 0 ⟨(i 1).val, (i 1).isLt⟩ ⟨(i 2).val, (i 2).isLt⟩)

theorem unbatch_at {n k : Nat} {T : Type} (f : Fin 4 → Shape.Idx ⟨3, ![1, n, k]⟩ → T) (i : Shape.Idx ⟨3, ![4, n, k]⟩) (b : Fin 4)
    (y : Shape.Idx ⟨3, ![1, n, k]⟩) (h0 : (i 0).val = b.val) (h1 : (i 1).val = (y 1).val) (h2 : (i 2).val = (y 2).val) :
    f b y = unbatch f i := by
  unfold unbatch
  have e0 : (⟨(i 0).val, (i 0).isLt⟩ : Fin 4) = b := Fin.ext h0
  have e1 : (ix3 0 ⟨(i 1).val, (i 1).isLt⟩ ⟨(i 2).val, (i 2).isLt⟩ : Shape.Idx ⟨3, ![1, n, k]⟩) = y := by
    funext a
    match a with
    | 0 => exact Fin.ext (show (0 : Nat) = (y 0).val from by have := (y 0).isLt; change _ < 1 at this; omega)
    | 1 => exact Fin.ext h1
    | 2 => exact Fin.ext h2
  rw [e0, e1]

theorem index0 : ∀ t : Fin cfg0.N,
    win0_0.index t = ![t.val, 0, 0] ∧ win0_1.index t = ![t.val, 0, 0] ∧ win0_2.index t = ![0, 0]
    ∧ win0_3.index t = ![0, 0] ∧ win0_4.index t = ![0, 0] ∧ win0_5.index t = ![0, 0] ∧ win0_6.index t = ![t.val, 0, 0]
    ∧ win0_8.index t = ![t.val, 0, 0] ∧ win0_9.index t = ![t.val, 0, 0] ∧ win0_10.index t = ![t.val, 0, 0] :=
  (by decide +kernel : ∀ t : Fin grid0.N, _)

theorem index1 : ∀ t : Fin cfg1.N, win1_0.index t = ![t.val, 0, 0] ∧ win1_1.index t = ![t.val, 0, 0] :=
  (by decide +kernel : ∀ t : Fin grid1.N, _)

theorem index2 : ∀ t : Fin cfg2.N, win2_0.index t = ![t.val, 0, 0] ∧ win2_1.index t = ![t.val, 0, 0] :=
  (by decide +kernel : ∀ t : Fin grid2.N, _)

theorem blk0_0 (t : Fin cfg0.N) : iblk0 V c 0 t = batch (V c main_arg0) ⟨t.val, t.isLt⟩ := by
  funext y
  unfold batch
  blk_ext [iblk0, (index0 t).1]

theorem blk0_1 (t : Fin cfg0.N) : iblk0 V c 1 t = batch (V c main_arg1) ⟨t.val, t.isLt⟩ := by
  funext y
  unfold batch
  blk_ext [iblk0, (index0 t).2.1]

theorem blk0_2 (t : Fin cfg0.N) : iblk0 V c 2 t = V c main_arg2 := by
  funext y
  blk_ext [iblk0, (index0 t).2.2.1]

theorem blk0_3 (t : Fin cfg0.N) : iblk0 V c 3 t = V c main_v0 := by
  funext y
  blk_ext [iblk0, (index0 t).2.2.2.1]

theorem blk0_4 (t : Fin cfg0.N) : iblk0 V c 4 t = V c main_arg4 := by
  funext y
  blk_ext [iblk0, (index0 t).2.2.2.2.1]

theorem blk0_5 (t : Fin cfg0.N) : iblk0 V c 5 t = V c main_v1 := by
  funext y
  blk_ext [iblk0, (index0 t).2.2.2.2.2.1]

theorem blk1_0 (t : Fin cfg1.N) : iblk1 V c 0 t = batch (V c main_v2_3) ⟨t.val, t.isLt⟩ := by
  funext y
  unfold batch
  blk_ext [iblk1, (index1 t).1]

theorem blk2_0 (t : Fin cfg2.N) : iblk2 V c 0 t = batch (V c main_v2_4) ⟨t.val, t.isLt⟩ := by
  funext y
  unfold batch
  blk_ext [iblk2, (index2 t).1]

theorem arr0_6 : (dat0 V c).arrAt 6 cfg0.N = unbatch fun b =>
    k0_pay4 (batch (V c main_arg0) b) (V c main_arg2) (V c main_v0) (V c main_arg4) (V c main_v1) := by
  refine (dat0 V c).arrAt_eq_of_covers 6 _ (by decide +kernel) fun t hf y => ?_
  blk_simp
  rw [after0_6]
  frame_out
  rw [blk0_0, blk0_2, blk0_3, blk0_4, blk0_5]
  exact unbatch_at (fun b =>
    k0_pay4 (batch (V c main_arg0) b) (V c main_arg2) (V c main_v0) (V c main_arg4) (V c main_v1))
    _ ⟨t.val, t.isLt⟩ y (by blk_simp [(index0 t).2.2.2.2.2.2.1]) (by blk_simp [(index0 t).2.2.2.2.2.2.1]) (by blk_simp [(index0 t).2.2.2.2.2.2.1])

theorem arr0_8 : (dat0 V c).arrAt 8 cfg0.N = unbatch fun b =>
    k0_pay28 (k0_pay32 (batch (V c main_arg0) b) (batch (V c main_arg1) b) (V c main_arg2) (V c main_v0) (V c main_arg4) (V c main_v1)) (k0_pay36 (batch (V c main_arg0) b) (batch (V c main_arg1) b) (V c main_arg2) (V c main_v0) (V c main_arg4) (V c main_v1)) (k0_pay35 (batch (V c main_arg0) b) (batch (V c main_arg1) b) (V c main_arg2) (V c main_v0) (V c main_arg4) (V c main_v1)) := by
  refine (dat0 V c).arrAt_eq_of_covers 8 _ (by decide +kernel) fun t hf y => ?_
  blk_simp
  rw [after0_8]
  frame_out
  rw [blk0_0, blk0_1, blk0_2, blk0_3, blk0_4, blk0_5]
  exact unbatch_at (fun b =>
    k0_pay28 (k0_pay32 (batch (V c main_arg0) b) (batch (V c main_arg1) b) (V c main_arg2) (V c main_v0) (V c main_arg4) (V c main_v1)) (k0_pay36 (batch (V c main_arg0) b) (batch (V c main_arg1) b) (V c main_arg2) (V c main_v0) (V c main_arg4) (V c main_v1)) (k0_pay35 (batch (V c main_arg0) b) (batch (V c main_arg1) b) (V c main_arg2) (V c main_v0) (V c main_arg4) (V c main_v1)))
    _ ⟨t.val, t.isLt⟩ y (by blk_simp [(index0 t).2.2.2.2.2.2.2.1]) (by blk_simp [(index0 t).2.2.2.2.2.2.2.1]) (by blk_simp [(index0 t).2.2.2.2.2.2.2.1])

theorem arr0_9 : (dat0 V c).arrAt 9 cfg0.N = unbatch fun b =>
    k0_pay30 (k0_pay32 (batch (V c main_arg0) b) (batch (V c main_arg1) b) (V c main_arg2) (V c main_v0) (V c main_arg4) (V c main_v1)) (k0_pay36 (batch (V c main_arg0) b) (batch (V c main_arg1) b) (V c main_arg2) (V c main_v0) (V c main_arg4) (V c main_v1)) (k0_pay35 (batch (V c main_arg0) b) (batch (V c main_arg1) b) (V c main_arg2) (V c main_v0) (V c main_arg4) (V c main_v1)) := by
  refine (dat0 V c).arrAt_eq_of_covers 9 _ (by decide +kernel) fun t hf y => ?_
  blk_simp
  rw [after0_9]
  frame_out
  rw [blk0_0, blk0_1, blk0_2, blk0_3, blk0_4, blk0_5]
  exact unbatch_at (fun b =>
    k0_pay30 (k0_pay32 (batch (V c main_arg0) b) (batch (V c main_arg1) b) (V c main_arg2) (V c main_v0) (V c main_arg4) (V c main_v1)) (k0_pay36 (batch (V c main_arg0) b) (batch (V c main_arg1) b) (V c main_arg2) (V c main_v0) (V c main_arg4) (V c main_v1)) (k0_pay35 (batch (V c main_arg0) b) (batch (V c main_arg1) b) (V c main_arg2) (V c main_v0) (V c main_arg4) (V c main_v1)))
    _ ⟨t.val, t.isLt⟩ y (by blk_simp [(index0 t).2.2.2.2.2.2.2.2.1]) (by blk_simp [(index0 t).2.2.2.2.2.2.2.2.1]) (by blk_simp [(index0 t).2.2.2.2.2.2.2.2.1])

theorem arr0_10 : (dat0 V c).arrAt 10 cfg0.N = unbatch fun b =>
    k0_pay1 (k0_pay32 (batch (V c main_arg0) b) (batch (V c main_arg1) b) (V c main_arg2) (V c main_v0) (V c main_arg4) (V c main_v1))
      (k0_pay27 (k0_pay32 (batch (V c main_arg0) b) (batch (V c main_arg1) b) (V c main_arg2) (V c main_v0) (V c main_arg4) (V c main_v1)) (k0_pay36 (batch (V c main_arg0) b) (batch (V c main_arg1) b) (V c main_arg2) (V c main_v0) (V c main_arg4) (V c main_v1)) (k0_pay35 (batch (V c main_arg0) b) (batch (V c main_arg1) b) (V c main_arg2) (V c main_v0) (V c main_arg4) (V c main_v1)))
      (k0_pay29 (k0_pay32 (batch (V c main_arg0) b) (batch (V c main_arg1) b) (V c main_arg2) (V c main_v0) (V c main_arg4) (V c main_v1)) (k0_pay36 (batch (V c main_arg0) b) (batch (V c main_arg1) b) (V c main_arg2) (V c main_v0) (V c main_arg4) (V c main_v1)) (k0_pay35 (batch (V c main_arg0) b) (batch (V c main_arg1) b) (V c main_arg2) (V c main_v0) (V c main_arg4) (V c main_v1))) := by
  refine (dat0 V c).arrAt_eq_of_covers 10 _ (by decide +kernel) fun t hf y => ?_
  blk_simp
  rw [after0_10]
  frame_out
  rw [blk0_0, blk0_1, blk0_2, blk0_3, blk0_4, blk0_5]
  exact unbatch_at (fun b =>
    k0_pay1 (k0_pay32 (batch (V c main_arg0) b) (batch (V c main_arg1) b) (V c main_arg2) (V c main_v0) (V c main_arg4) (V c main_v1))
      (k0_pay27 (k0_pay32 (batch (V c main_arg0) b) (batch (V c main_arg1) b) (V c main_arg2) (V c main_v0) (V c main_arg4) (V c main_v1)) (k0_pay36 (batch (V c main_arg0) b) (batch (V c main_arg1) b) (V c main_arg2) (V c main_v0) (V c main_arg4) (V c main_v1)) (k0_pay35 (batch (V c main_arg0) b) (batch (V c main_arg1) b) (V c main_arg2) (V c main_v0) (V c main_arg4) (V c main_v1)))
      (k0_pay29 (k0_pay32 (batch (V c main_arg0) b) (batch (V c main_arg1) b) (V c main_arg2) (V c main_v0) (V c main_arg4) (V c main_v1)) (k0_pay36 (batch (V c main_arg0) b) (batch (V c main_arg1) b) (V c main_arg2) (V c main_v0) (V c main_arg4) (V c main_v1)) (k0_pay35 (batch (V c main_arg0) b) (batch (V c main_arg1) b) (V c main_arg2) (V c main_v0) (V c main_arg4) (V c main_v1))))
    _ ⟨t.val, t.isLt⟩ y (by blk_simp [(index0 t).2.2.2.2.2.2.2.2.2]) (by blk_simp [(index0 t).2.2.2.2.2.2.2.2.2]) (by blk_simp [(index0 t).2.2.2.2.2.2.2.2.2])

/-- The 27 rounds of one batch in the call's two halves. -/
def rounds1 (d : FVec F S1x512x4096 .f32) : FVec F S256x4096 .f32 × IVec S256x32 32 × FVec F S256x4096 .f32 × IVec S256x32 32 :=
  Scf.fold (n := 27)
    (fun k a => (k1_pay6 a.1, k1_pay7 k a.1 a.2.1, k1_pay9 a.2.2.1, k1_pay10 k a.2.2.1 a.2.2.2))
    (k1_pay2 d, k1_pay4, k1_pay3 d, k1_pay4)

theorem arr1_1 : (dat1 V c).arrAt 1 cfg1.N = unbatch fun b =>
    k1_pay12 (rounds1 (batch (V c main_v2_3) b)).2.1 (rounds1 (batch (V c main_v2_3) b)).2.2.2 := by
  refine (dat1 V c).arrAt_eq_of_covers 1 _ (by decide +kernel) fun t hf y => ?_
  blk_simp
  rw [after1_1]
  unfold outsAt1
  frame_out
  rw [blk1_0]
  exact unbatch_at (fun b =>
    k1_pay12 (rounds1 (batch (V c main_v2_3) b)).2.1 (rounds1 (batch (V c main_v2_3) b)).2.2.2)
    _ ⟨t.val, t.isLt⟩ y (by blk_simp [(index1 t).2]) (by blk_simp [(index1 t).2]) (by blk_simp [(index1 t).2])

/-- The 27 rounds of one batch in the call's two halves. -/
def rounds2 (d : FVec F S1x4096x512 .f32) : FVec F S2048x512 .f32 × IVec S2048x32 32 × FVec F S2048x512 .f32 × IVec S2048x32 32 :=
  Scf.fold (n := 27)
    (fun k a => (k2_pay6 a.1, k2_pay7 k a.1 a.2.1, k2_pay9 a.2.2.1, k2_pay10 k a.2.2.1 a.2.2.2))
    (k2_pay2 d, k2_pay4, k2_pay3 d, k2_pay4)

theorem arr2_1 : (dat2 V c).arrAt 1 cfg2.N = unbatch fun b =>
    k2_pay11 (rounds2 (batch (V c main_v2_4) b)).2.1 (rounds2 (batch (V c main_v2_4) b)).2.2.2 := by
  refine (dat2 V c).arrAt_eq_of_covers 1 _ (by decide +kernel) fun t hf y => ?_
  blk_simp
  rw [after2_1]
  unfold outsAt2
  frame_out
  rw [blk2_0]
  exact unbatch_at (fun b =>
    k2_pay11 (rounds2 (batch (V c main_v2_4) b)).2.1 (rounds2 (batch (V c main_v2_4) b)).2.2.2)
    _ ⟨t.val, t.isLt⟩ y (by blk_simp [(index2 t).2]) (by blk_simp [(index2 t).2]) (by blk_simp [(index2 t).2])

end Cert.Proof.SelectBlocks

end
-- ==== Proof.SelectNearest.lean ====
/- The rounds of the two nearest-neighbour calls: round `t` finds a row's `t`-th smallest distance, ties to the lower
   index, and puts the index of it into column `t`. -/
module

public import proofs.«01_k».proof.Proof.SelectOrder
public import proofs.«01_k».proof.Proof.SelectBlocks
public import Mathlib.Data.Finset.Lattice.Fold
public import Idealize.ShloMosaic.Lib.Pointwise
public import Idealize.ShloMosaic.Lib.SortNet.Extract

@[expose] public section

set_option maxRecDepth 16384

noncomputable section

namespace Cert.Proof.SelectNearest

open Idealize.ShloMosaic Idealize.ShloMosaic.TcCoe Idealize.ShloMosaic.Tactic
open Cert.SelectIdeal Cert.SelectIdeal.Gen
open Cert.Proof.SelectOrder Cert.Proof.SelectBlocks

/-- The least of a row of masked distances, and then the least column that holds it: the `t`-th place. -/
theorem pick {n : Nat} (hn : n ≤ 4096) (key : Fin n → EReal) (hkey : ∀ i, key i < ⊤) (t : Fin n) (row : Fin n → EReal)
    (hrow : ∀ i, row i = masked key t.val i) :
    Finset.fold IntOp.minsi 2147483647#32
      (fun i : Fin n => if row i = Finset.fold min (Ideal.ofBits FTy.f32 2139095040#32) (fun k : Fin n => row k) Finset.univ then
        BitVec.ofNat 32 i.val else 1073741824#32) Finset.univ = BitVec.ofNat 32 (place key t).val := by
  have e : Ideal.ofBits FTy.f32 2139095040#32 = ⊤ := by simp [Ideal.ofBits, Ideal.ieee]
  have hm : Finset.fold min (Ideal.ofBits FTy.f32 2139095040#32) (fun k : Fin n => row k) Finset.univ = key (place key t) := by
    rw [e]
    apply le_antisymm
    · rw [Finset.fold_min_le]
      exact .inr ⟨place key t, Finset.mem_univ _, le_of_eq ((hrow _).trans (masked_place key t))⟩
    · rw [Finset.le_fold_min]
      exact ⟨le_top, fun k _ => (masked_le key t k).trans (le_of_eq (hrow k).symm)⟩
  rw [hm]
  have toInt_small : ∀ k : Nat, k < 4096 → (BitVec.ofNat 32 k).toInt = k := fun k hk => by
    rw [BitVec.toInt_ofNat', Int.bmod_def]; omega
  have hp : row (place key t) = key (place key t) := (hrow _).trans (masked_place key t)
  apply BitVec.eq_of_toInt_eq
  rw [← Finset.fold_hom (op' := (min : Int → Int → Int)) (m := BitVec.toInt) (fun a b => SortNet.toInt_minsi a b)]
  have hlt := (place key t).isLt
  apply le_antisymm
  · rw [Finset.fold_min_le]
    refine .inr ⟨place key t, Finset.mem_univ _, le_of_eq ?_⟩
    rw [if_pos hp]
  · rw [Finset.le_fold_min, toInt_small _ (by omega)]
    refine ⟨by have : (2147483647#32 : BitVec 32).toInt = 2147483647 := by decide
               omega, fun k _ => ?_⟩
    by_cases hk : row k = key (place key t)
    · rw [if_pos hk, toInt_small _ (by omega)]
      have := masked_first key hkey t k ((hrow k).symm.trans hk)
      exact_mod_cast this
    · rw [if_neg hk]
      have : (1073741824#32 : BitVec 32).toInt = 1073741824 := by decide
      omega

theorem select_eq {T : Type} (a b : BitVec 32) (x y : T) : Scalar.select (IntOp.cmpi CmpIPredicate.eq a b) x y = if a = b then x else y := by
  by_cases h : a = b
  · subst h
    rw [if_pos rfl]
    simp [Scalar.select, IntOp.cmpi]
  · rw [if_neg h]
    have e : (a == b) = false := by simpa using h
    simp [Scalar.select, IntOp.cmpi, e]

theorem word_eq_iff {a b : Nat} (ha : a < 4096) (hb : b < 4096) : BitVec.ofNat 32 a = BitVec.ofNat 32 b ↔ a = b := by
  refine ⟨fun h => ?_, fun h => by rw [h]⟩
  have := congrArg BitVec.toNat h
  simp only [BitVec.toNat_ofNat] at this
  omega

theorem mask_step {n : Nat} (hn : n ≤ 4096) (key : Fin n → EReal) (t : Fin n) (i : Fin n) :
    Scalar.select (IntOp.cmpi CmpIPredicate.eq (BitVec.ofNat 32 i.val) (BitVec.ofNat 32 (place key t).val))
      (Ideal.ofBits FTy.f32 2139095040#32) (masked key t.val i) = masked key (t.val + 1) i := by
  have e : Ideal.ofBits FTy.f32 2139095040#32 = ⊤ := by simp [Ideal.ofBits, Ideal.ieee]
  have h1 := i.isLt
  have h2 := (place key t).isLt
  rw [masked_succ, e, select_eq]
  refine if_congr ?_ rfl rfl
  rw [word_eq_iff (by omega) (by omega), Fin.ext_iff]

theorem put_step (j k : Nat) (hj : j < 32) (hk : k < 27) (o v : BitVec 32) :
    IntOp.addi o (Scalar.select (IntOp.cmpi CmpIPredicate.eq (BitVec.ofNat 32 j) (Scf.iv 0#32 1#32 k)) v 0#32)
      = o + if j = k then v else 0 := by
  rw [select_eq]
  have e : Scf.iv 0#32 1#32 k = BitVec.ofNat 32 k := by
    simp [Scf.iv]
  rw [e]
  show o + _ = _
  congr 1
  exact if_congr (word_eq_iff (by omega) (by omega)) rfl rfl

/-- What holds at the start and is kept by every trip holds at the end. -/
theorem fold_inv {σ : Type} {n : Nat} (g : Fin n → σ → σ) (init : σ) (P : Nat → σ → Prop) (h0 : P 0 init)
    (hs : ∀ (k : Fin n) (a : σ), P k.val a → P (k.val + 1) (g k a)) : P n (Scf.fold g init) := by
  rw [Scf.fold_eq]
  have key : ∀ m (hm : m ≤ n), P m (((List.finRange n).take m).foldl (fun acc k => g k acc) init) := by
    intro m
    induction m with
    | zero => intro _; simpa using h0
    | succ m ih =>
      intro hm
      rw [List.take_succ_eq_append_getElem (by simpa using hm), List.foldl_append]
      simpa using hs ⟨m, hm⟩ _ (ih (by omega))
  have := key n le_rfl
  rwa [List.take_of_length_le (by simp)] at this

/-- Where a row's columns stand after `t` rounds. -/
def Column {n : Nat} (hn : 27 ≤ n) (key : Fin n → EReal) (t : Nat) (o : Fin 32 → BitVec 32) : Prop :=
  ∀ j : Fin 32, o j = if h : j.val < t ∧ j.val < 27 then BitVec.ofNat 32 (place key ⟨j.val, by omega⟩).val else 0

theorem column_step {n : Nat} (hn : 27 ≤ n) (key : Fin n → EReal) (k : Fin 27) (o o' : Fin 32 → BitVec 32)
    (h : Column hn key k.val o)
    (ho : ∀ j, o' j = o j + if j.val = k.val then BitVec.ofNat 32 (place key ⟨k.val, by omega⟩).val else 0) :
    Column hn key (k.val + 1) o' := by
  intro j
  rw [ho, h j]
  by_cases e : j.val = k.val
  · rw [dif_neg (by omega), if_pos e, dif_pos (by omega), show ∀ x : BitVec 32, 0 + x = x from fun x => BitVec.zero_add x]
    simp only [e]
  · rw [if_neg e, show ∀ x : BitVec 32, x + 0 = x from fun x => BitVec.add_zero x]
    by_cases l : j.val < k.val ∧ j.val < 27
    · rw [dif_pos l, dif_pos (by omega)]
    · rw [dif_neg l, dif_neg (by omega)]

theorem k1_pick5 (x : FVec Ideal S256x4096 .f32) (r : Fin 256) (key : Fin 4096 → EReal) (hkey : ∀ i, key i < ⊤) (t : Fin 4096)
    (hx : ∀ i : Fin 4096, x (ix2 r i) = masked key t.val i) (j : Fin 1) :
    k1_pay5 x (ix2 r j) = BitVec.ofNat 32 (place key t).val := by
  unfold k1_pay5
  pointwise
  exact pick (by decide) key hkey t (fun i => x (ix2 r i)) hx

theorem k1_next5 (x : FVec Ideal S256x4096 .f32) (r : Fin 256) (key : Fin 4096 → EReal) (hkey : ∀ i, key i < ⊤) (t : Nat) (ht : t < 4096)
    (hx : ∀ i : Fin 4096, x (ix2 r i) = masked key t i) (i : Fin 4096) :
    k1_pay6 x (ix2 r i) = masked key (t + 1) i := by
  unfold k1_pay6
  pointwise [k1_pick5 x r key hkey ⟨t, ht⟩ hx, hx]
  exact mask_step (by decide) key ⟨t, ht⟩ i

theorem k1_put5 (x : FVec Ideal S256x4096 .f32) (r : Fin 256) (key : Fin 4096 → EReal) (hkey : ∀ i, key i < ⊤) (k : Fin 27)
    (hx : ∀ i : Fin 4096, x (ix2 r i) = masked key k.val i) (o : IVec S256x32 32) (j : Fin 32) :
    k1_pay7 k x o (ix2 r j) = o (ix2 r j) + if j.val = k.val then BitVec.ofNat 32 (place key ⟨k.val, by omega⟩).val else 0 := by
  unfold k1_pay7
  pointwise [k1_pick5 x r key hkey ⟨k.val, by omega⟩ hx]
  exact put_step _ _ j.isLt k.isLt _ _

theorem k1_pick8 (x : FVec Ideal S256x4096 .f32) (r : Fin 256) (key : Fin 4096 → EReal) (hkey : ∀ i, key i < ⊤) (t : Fin 4096)
    (hx : ∀ i : Fin 4096, x (ix2 r i) = masked key t.val i) (j : Fin 1) :
    k1_pay8 x (ix2 r j) = BitVec.ofNat 32 (place key t).val := by
  unfold k1_pay8
  pointwise
  exact pick (by decide) key hkey t (fun i => x (ix2 r i)) hx

theorem k1_next8 (x : FVec Ideal S256x4096 .f32) (r : Fin 256) (key : Fin 4096 → EReal) (hkey : ∀ i, key i < ⊤) (t : Nat) (ht : t < 4096)
    (hx : ∀ i : Fin 4096, x (ix2 r i) = masked key t i) (i : Fin 4096) :
    k1_pay9 x (ix2 r i) = masked key (t + 1) i := by
  unfold k1_pay9
  pointwise [k1_pick8 x r key hkey ⟨t, ht⟩ hx, hx]
  exact mask_step (by decide) key ⟨t, ht⟩ i

theorem k1_put8 (x : FVec Ideal S256x4096 .f32) (r : Fin 256) (key : Fin 4096 → EReal) (hkey : ∀ i, key i < ⊤) (k : Fin 27)
    (hx : ∀ i : Fin 4096, x (ix2 r i) = masked key k.val i) (o : IVec S256x32 32) (j : Fin 32) :
    k1_pay10 k x o (ix2 r j) = o (ix2 r j) + if j.val = k.val then BitVec.ofNat 32 (place key ⟨k.val, by omega⟩).val else 0 := by
  unfold k1_pay10
  pointwise [k1_pick8 x r key hkey ⟨k.val, by omega⟩ hx]
  exact put_step _ _ j.isLt k.isLt _ _

theorem k2_pick5 (x : FVec Ideal S2048x512 .f32) (r : Fin 2048) (key : Fin 512 → EReal) (hkey : ∀ i, key i < ⊤) (t : Fin 512)
    (hx : ∀ i : Fin 512, x (ix2 r i) = masked key t.val i) (j : Fin 1) :
    k2_pay5 x (ix2 r j) = BitVec.ofNat 32 (place key t).val := by
  unfold k2_pay5
  pointwise
  exact pick (by decide) key hkey t (fun i => x (ix2 r i)) hx

theorem k2_next5 (x : FVec Ideal S2048x512 .f32) (r : Fin 2048) (key : Fin 512 → EReal) (hkey : ∀ i, key i < ⊤) (t : Nat) (ht : t < 512)
    (hx : ∀ i : Fin 512, x (ix2 r i) = masked key t i) (i : Fin 512) :
    k2_pay6 x (ix2 r i) = masked key (t + 1) i := by
  unfold k2_pay6
  pointwise [k2_pick5 x r key hkey ⟨t, ht⟩ hx, hx]
  exact mask_step (by decide) key ⟨t, ht⟩ i

theorem k2_put5 (x : FVec Ideal S2048x512 .f32) (r : Fin 2048) (key : Fin 512 → EReal) (hkey : ∀ i, key i < ⊤) (k : Fin 27)
    (hx : ∀ i : Fin 512, x (ix2 r i) = masked key k.val i) (o : IVec S2048x32 32) (j : Fin 32) :
    k2_pay7 k x o (ix2 r j) = o (ix2 r j) + if j.val = k.val then BitVec.ofNat 32 (place key ⟨k.val, by omega⟩).val else 0 := by
  unfold k2_pay7
  pointwise [k2_pick5 x r key hkey ⟨k.val, by omega⟩ hx]
  exact put_step _ _ j.isLt k.isLt _ _

theorem k2_pick8 (x : FVec Ideal S2048x512 .f32) (r : Fin 2048) (key : Fin 512 → EReal) (hkey : ∀ i, key i < ⊤) (t : Fin 512)
    (hx : ∀ i : Fin 512, x (ix2 r i) = masked key t.val i) (j : Fin 1) :
    k2_pay8 x (ix2 r j) = BitVec.ofNat 32 (place key t).val := by
  unfold k2_pay8
  pointwise
  exact pick (by decide) key hkey t (fun i => x (ix2 r i)) hx

theorem k2_next8 (x : FVec Ideal S2048x512 .f32) (r : Fin 2048) (key : Fin 512 → EReal) (hkey : ∀ i, key i < ⊤) (t : Nat) (ht : t < 512)
    (hx : ∀ i : Fin 512, x (ix2 r i) = masked key t i) (i : Fin 512) :
    k2_pay9 x (ix2 r i) = masked key (t + 1) i := by
  unfold k2_pay9
  pointwise [k2_pick8 x r key hkey ⟨t, ht⟩ hx, hx]
  exact mask_step (by decide) key ⟨t, ht⟩ i

theorem k2_put8 (x : FVec Ideal S2048x512 .f32) (r : Fin 2048) (key : Fin 512 → EReal) (hkey : ∀ i, key i < ⊤) (k : Fin 27)
    (hx : ∀ i : Fin 512, x (ix2 r i) = masked key k.val i) (o : IVec S2048x32 32) (j : Fin 32) :
    k2_pay10 k x o (ix2 r j) = o (ix2 r j) + if j.val = k.val then BitVec.ofNat 32 (place key ⟨k.val, by omega⟩).val else 0 := by
  unfold k2_pay10
  pointwise [k2_pick8 x r key hkey ⟨k.val, by omega⟩ hx]
  exact put_step _ _ j.isLt k.isLt _ _

/-- One trip of the call's loop. -/
def trip1 (k : Fin 27) (a : FVec Ideal S256x4096 .f32 × IVec S256x32 32 × FVec Ideal S256x4096 .f32 × IVec S256x32 32) : FVec Ideal S256x4096 .f32 × IVec S256x32 32 × FVec Ideal S256x4096 .f32 × IVec S256x32 32 :=
  (k1_pay6 a.1, k1_pay7 k a.1 a.2.1, k1_pay9 a.2.2.1, k1_pay10 k a.2.2.1 a.2.2.2)

/-- Where row `r` of each half stands after `t` rounds. -/
def Stand1 (r : Fin 256) (ka kb : Fin 4096 → EReal) (t : Nat) (a : FVec Ideal S256x4096 .f32 × IVec S256x32 32 × FVec Ideal S256x4096 .f32 × IVec S256x32 32) : Prop :=
  ((∀ i, a.1 (ix2 r i) = masked ka t i) ∧ Column (by decide) ka t (fun j => a.2.1 (ix2 r j)))
    ∧ (∀ i, a.2.2.1 (ix2 r i) = masked kb t i) ∧ Column (by decide) kb t (fun j => a.2.2.2 (ix2 r j))

theorem k1_step (r : Fin 256) (ka kb : Fin 4096 → EReal) (ha : ∀ i, ka i < ⊤) (hb : ∀ i, kb i < ⊤) (k : Fin 27) (a : FVec Ideal S256x4096 .f32 × IVec S256x32 32 × FVec Ideal S256x4096 .f32 × IVec S256x32 32)
    (H : Stand1 r ka kb k.val a) : Stand1 r ka kb (k.val + 1) (trip1 k a) := by
  obtain ⟨⟨hx, ho⟩, hx', ho'⟩ := H
  have kt : k.val < 4096 := by omega
  refine ⟨⟨fun i => ?_, ?_⟩, fun i => ?_, ?_⟩ <;> dsimp only [trip1]
  · exact k1_next5 a.1 r ka ha k.val kt hx i
  · exact column_step _ ka k _ _ ho (k1_put5 a.1 r ka ha k hx a.2.1)
  · exact k1_next8 a.2.2.1 r kb hb k.val kt hx' i
  · exact column_step _ kb k _ _ ho' (k1_put8 a.2.2.1 r kb hb k hx' a.2.2.2)

theorem k1_start (d : FVec Ideal S1x512x4096 .f32) (key : Fin 512 → Fin 4096 → EReal)
    (hd : ∀ r i, d (ix3 0 r i) = key r i) (r : Fin 256) :
    Stand1 r (key ⟨r.val, by omega⟩) (key ⟨r.val + 256, by omega⟩) 0 (k1_pay2 d, k1_pay4, k1_pay3 d, k1_pay4) := by
  refine ⟨⟨fun i => ?_, fun j => ?_⟩, fun i => ?_, fun j => ?_⟩
  · rw [masked_zero]
    refine Eq.trans ?_ (hd _ i)
    unfold k1_pay2 k1_pay1
    pointwise
  · rw [dif_neg (by omega)]
    unfold k1_pay4
    pointwise
    rfl
  · rw [masked_zero]
    refine Eq.trans ?_ (hd _ i)
    unfold k1_pay3 k1_pay1
    pointwise
    rw [show (⟨256 + r.val, by omega⟩ : Fin 512) = ⟨r.val + 256, by omega⟩ from Fin.ext (Nat.add_comm ..)]
  · rw [dif_neg (by omega)]
    unfold k1_pay4
    pointwise
    rfl

theorem rounds1_columns (d : FVec Ideal S1x512x4096 .f32) (key : Fin 512 → Fin 4096 → EReal) (hkey : ∀ r i, key r i < ⊤)
    (hd : ∀ r i, d (ix3 0 r i) = key r i) (r : Fin 256) :
    Stand1 r (key ⟨r.val, by omega⟩) (key ⟨r.val + 256, by omega⟩) 27 (rounds1 d) :=
  fold_inv trip1 _ (Stand1 r (key ⟨r.val, by omega⟩) (key ⟨r.val + 256, by omega⟩)) (k1_start d key hd r)
    (k1_step r _ _ (hkey _) (hkey _))

/-- Column `k` of row `r` of the call's result is the place of the row's `k`-th smallest distance. -/
theorem nearest1 (d : FVec Ideal S1x512x4096 .f32) (key : Fin 512 → Fin 4096 → EReal) (hkey : ∀ r i, key r i < ⊤)
    (hd : ∀ r i, d (ix3 0 r i) = key r i) (r : Fin 512) (k : Fin 27) :
    k1_pay12 (rounds1 d).2.1 (rounds1 d).2.2.2 (ix3 0 r k) = BitVec.ofNat 32 (place (key r) ⟨k.val, by omega⟩).val := by
  have H := rounds1_columns d key hkey hd
  by_cases h : r.val < 256
  · have e := (H ⟨r.val, h⟩).1.2 ⟨k.val, by omega⟩
    rw [dif_pos (by simp)] at e
    refine Eq.trans ?_ e
    unfold k1_pay12 k1_pay11
    pointwise
    rw [dif_pos h]
  · have e := (H ⟨r.val - 256, by omega⟩).2.2 ⟨k.val, by omega⟩
    rw [dif_pos (by simp)] at e
    refine Eq.trans ?_ (e.trans ?_)
    · unfold k1_pay12 k1_pay11
      pointwise
      rw [dif_neg h]
    · have e : (⟨r.val - 256 + 256, by omega⟩ : Fin 512) = r := Fin.ext (by show r.val - 256 + 256 = r.val; omega)
      rw [e]

/-- One trip of the call's loop. -/
def trip2 (k : Fin 27) (a : FVec Ideal S2048x512 .f32 × IVec S2048x32 32 × FVec Ideal S2048x512 .f32 × IVec S2048x32 32) : FVec Ideal S2048x512 .f32 × IVec S2048x32 32 × FVec Ideal S2048x512 .f32 × IVec S2048x32 32 :=
  (k2_pay6 a.1, k2_pay7 k a.1 a.2.1, k2_pay9 a.2.2.1, k2_pay10 k a.2.2.1 a.2.2.2)

/-- Where row `r` of each half stands after `t` rounds. -/
def Stand2 (r : Fin 2048) (ka kb : Fin 512 → EReal) (t : Nat) (a : FVec Ideal S2048x512 .f32 × IVec S2048x32 32 × FVec Ideal S2048x512 .f32 × IVec S2048x32 32) : Prop :=
  ((∀ i, a.1 (ix2 r i) = masked ka t i) ∧ Column (by decide) ka t (fun j => a.2.1 (ix2 r j)))
    ∧ (∀ i, a.2.2.1 (ix2 r i) = masked kb t i) ∧ Column (by decide) kb t (fun j => a.2.2.2 (ix2 r j))

theorem k2_step (r : Fin 2048) (ka kb : Fin 512 → EReal) (ha : ∀ i, ka i < ⊤) (hb : ∀ i, kb i < ⊤) (k : Fin 27) (a : FVec Ideal S2048x512 .f32 × IVec S2048x32 32 × FVec Ideal S2048x512 .f32 × IVec S2048x32 32)
    (H : Stand2 r ka kb k.val a) : Stand2 r ka kb (k.val + 1) (trip2 k a) := by
  obtain ⟨⟨hx, ho⟩, hx', ho'⟩ := H
  have kt : k.val < 512 := by omega
  refine ⟨⟨fun i => ?_, ?_⟩, fun i => ?_, ?_⟩ <;> dsimp only [trip2]
  · exact k2_next5 a.1 r ka ha k.val kt hx i
  · exact column_step _ ka k _ _ ho (k2_put5 a.1 r ka ha k hx a.2.1)
  · exact k2_next8 a.2.2.1 r kb hb k.val kt hx' i
  · exact column_step _ kb k _ _ ho' (k2_put8 a.2.2.1 r kb hb k hx' a.2.2.2)

theorem k2_start (d : FVec Ideal S1x4096x512 .f32) (key : Fin 4096 → Fin 512 → EReal)
    (hd : ∀ r i, d (ix3 0 r i) = key r i) (r : Fin 2048) :
    Stand2 r (key ⟨r.val, by omega⟩) (key ⟨r.val + 2048, by omega⟩) 0 (k2_pay2 d, k2_pay4, k2_pay3 d, k2_pay4) := by
  refine ⟨⟨fun i => ?_, fun j => ?_⟩, fun i => ?_, fun j => ?_⟩
  · rw [masked_zero]
    refine Eq.trans ?_ (hd _ i)
    unfold k2_pay2 k2_pay1
    pointwise
  · rw [dif_neg (by omega)]
    unfold k2_pay4
    pointwise
    rfl
  · rw [masked_zero]
    refine Eq.trans ?_ (hd _ i)
    unfold k2_pay3 k2_pay1
    pointwise
    rw [show (⟨2048 + r.val, by omega⟩ : Fin 4096) = ⟨r.val + 2048, by omega⟩ from Fin.ext (Nat.add_comm ..)]
  · rw [dif_neg (by omega)]
    unfold k2_pay4
    pointwise
    rfl

theorem rounds2_columns (d : FVec Ideal S1x4096x512 .f32) (key : Fin 4096 → Fin 512 → EReal) (hkey : ∀ r i, key r i < ⊤)
    (hd : ∀ r i, d (ix3 0 r i) = key r i) (r : Fin 2048) :
    Stand2 r (key ⟨r.val, by omega⟩) (key ⟨r.val + 2048, by omega⟩) 27 (rounds2 d) :=
  fold_inv trip2 _ (Stand2 r (key ⟨r.val, by omega⟩) (key ⟨r.val + 2048, by omega⟩)) (k2_start d key hd r)
    (k2_step r _ _ (hkey _) (hkey _))

/-- Column `k` of row `r` of the call's result is the place of the row's `k`-th smallest distance. -/
theorem nearest2 (d : FVec Ideal S1x4096x512 .f32) (key : Fin 4096 → Fin 512 → EReal) (hkey : ∀ r i, key r i < ⊤)
    (hd : ∀ r i, d (ix3 0 r i) = key r i) (r : Fin 4096) (k : Fin 27) :
    k2_pay11 (rounds2 d).2.1 (rounds2 d).2.2.2 (ix3 0 r k) = BitVec.ofNat 32 (place (key r) ⟨k.val, by omega⟩).val := by
  have H := rounds2_columns d key hkey hd
  by_cases h : r.val < 2048
  · have e := (H ⟨r.val, h⟩).1.2 ⟨k.val, by omega⟩
    rw [dif_pos (by simp)] at e
    refine Eq.trans ?_ e
    unfold k2_pay11
    pointwise
    rw [dif_pos h]
  · have e := (H ⟨r.val - 2048, by omega⟩).2.2 ⟨k.val, by omega⟩
    rw [dif_pos (by simp)] at e
    refine Eq.trans ?_ (e.trans ?_)
    · unfold k2_pay11
      pointwise
      rw [dif_neg h]
    · have e : (⟨r.val - 2048 + 2048, by omega⟩ : Fin 4096) = r := Fin.ext (by show r.val - 2048 + 2048 = r.val; omega)
      rw [e]

end Cert.Proof.SelectNearest

end
-- ==== Proof.SelectPrep.lean ====
/- The first TensorCore call, one batch of it: the scores, the ranks, the picked points and the distances. -/
module

public import proofs.«01_k».proof.Proof.SelectOrder
public import proofs.«01_k».proof.Proof.SelectBlocks
public import Idealize.ShloMosaic.Lib.Pointwise

@[expose] public section

set_option maxRecDepth 16384

noncomputable section

namespace Cert.Proof.SelectPrep

open Idealize.ShloMosaic Idealize.ShloMosaic.TcCoe Idealize.ShloMosaic.Tactic
open Cert.SelectIdeal Cert.SelectIdeal.Gen
open Cert.Proof.SelectOrder Cert.Proof.SelectBlocks

variable (x0 : Vec Ideal S1x4096x128 .f32) (x1 : Vec Ideal S1x4096x3 .f32) (x2 : Vec Ideal S128x64 .f32)
  (x3 : Vec Ideal S1x64 .f32) (x4 : Vec Ideal S64x1 .f32) (x5 : Vec Ideal S1x1 .f32)

/-- The score of point `i` of the batch. -/
def score (i : Fin 4096) : EReal :=
  Ideal.logistic (∑ k : Fin 64, Ideal.tanh (∑ j : Fin 128, x0 (ix3 0 i j) * x2 (ix2 j k) + x3 (ix2 0 k)) * x4 (ix2 k 0) + x5 (ix2 0 0))

theorem score_at (i : Fin 4096) : k0_pay3 x0 x2 x3 x4 x5 (ix2 i 0) = score x0 x2 x3 x4 x5 i := by
  unfold k0_pay3 score
  pointwise

theorem score4_at (i : Fin 4096) : k0_pay4 x0 x2 x3 x4 x5 (ix3 0 i 0) = score x0 x2 x3 x4 x5 i := by
  unfold k0_pay4
  pointwise [score_at]

theorem row_at (i : Fin 4096) : k0_pay6 x0 x2 x3 x4 x5 (ix2 0 i) = score x0 x2 x3 x4 x5 i := by
  unfold k0_pay6
  pointwise [score_at]

theorem before_iff_score (s : Fin 4096 → EReal) (j i : Fin 4096) :
    before (fun k => -s k) j i = true ↔ s i < s j ∨ s j = s i ∧ j < i := by
  rw [before_iff]
  simp only [EReal.neg_lt_neg_iff, neg_inj]

theorem fold_count {n : Nat} (f : Fin n → BitVec 32) (p : Fin n → Nat) (h : ∀ x, f x = BitVec.ofNat 32 (p x)) :
    Finset.fold IntOp.addi 0#32 f Finset.univ = BitVec.ofNat 32 (∑ x, p x) := by
  have key : ∀ S : Finset (Fin n), Finset.fold IntOp.addi 0#32 f S = BitVec.ofNat 32 (∑ x ∈ S, p x) := by
    intro S
    induction S using Finset.induction_on with
    | empty => rfl
    | insert a S ha ih =>
      rw [Finset.fold_insert ha, Finset.sum_insert ha, ih, h, BitVec.ofNat_add]
      rfl
  exact key _

theorem select_or (a b c : Bool) :
    Scalar.select (IntOp.ori (BitVec.ofBool a) (IntOp.andi (BitVec.ofBool b) (BitVec.ofBool c))) 1#32 0#32
      = BitVec.ofNat 32 (if (a || (b && c)) = true then 1 else 0) := by
  cases a <;> cases b <;> cases c <;> rfl

theorem chunk (s : Fin 4096 → EReal) (o : Nat) (ho : o + 512 ≤ 4096) (i : Fin 4096) :
    Finset.fold IntOp.addi (0#32) (fun x : Fin 512 =>
        Scalar.select
          (IntOp.ori (BitVec.ofBool (decide (s i < s ⟨o + x.val, by omega⟩)))
            (IntOp.andi (BitVec.ofBool (decide (s ⟨o + x.val, by omega⟩ = s i)))
              (IntOp.cmpi CmpIPredicate.slt (IntOp.addi (BitVec.ofNat 32 x.val) (BitVec.ofNat 32 o)) (BitVec.ofNat 32 i.val))))
          1#32 0#32) Finset.univ
      = BitVec.ofNat 32 (∑ x : Fin 512, if before (fun k => -s k) ⟨o + x.val, by omega⟩ i = true then 1 else 0) := by
  refine fold_count _ _ fun x => ?_
  have hx := x.isLt
  have hi := i.isLt
  have e : IntOp.cmpi CmpIPredicate.slt (IntOp.addi (BitVec.ofNat 32 x.val) (BitVec.ofNat 32 o)) (BitVec.ofNat 32 i.val)
      = BitVec.ofBool (decide (o + x.val < i.val)) := by
    show BitVec.ofBool ((BitVec.ofNat 32 x.val + BitVec.ofNat 32 o).slt (BitVec.ofNat 32 i.val)) = _
    have t : ∀ k : Nat, k < 4096 → (BitVec.ofNat 32 k).toInt = k := fun k hk => by
      rw [BitVec.toInt_ofNat', Int.bmod_def]; omega
    rw [← BitVec.ofNat_add, BitVec.slt, t _ (by omega), t _ (by omega)]
    congr 1
    exact decide_eq_decide.mpr (by omega)
  rw [e]
  have b := before_iff_score s ⟨o + x.val, by omega⟩ i
  rw [Fin.lt_def] at b
  refine (select_or (decide (s i < s ⟨o + x.val, by omega⟩)) (decide (s ⟨o + x.val, by omega⟩ = s i)) (decide (o + x.val < i.val))).trans ?_
  refine congrArg (BitVec.ofNat 32) (if_congr ?_ rfl rfl)
  rw [b, Bool.or_eq_true, Bool.and_eq_true, decide_eq_true_iff, decide_eq_true_iff, decide_eq_true_iff]

theorem chunk_first (s : Fin 4096 → EReal) (i : Fin 4096) :
    Finset.fold IntOp.addi (0#32) (fun x : Fin 512 =>
        Scalar.select
          (IntOp.ori (BitVec.ofBool (decide (s i < s ⟨x.val, by omega⟩)))
            (IntOp.andi (BitVec.ofBool (decide (s ⟨x.val, by omega⟩ = s i)))
              (IntOp.cmpi CmpIPredicate.slt (IntOp.addi (BitVec.ofNat 32 x.val) 0#32) (BitVec.ofNat 32 i.val))))
          1#32 0#32) Finset.univ
      = BitVec.ofNat 32 (∑ x : Fin 512, if before (fun k => -s k) ⟨0 + x.val, by omega⟩ i = true then 1 else 0) := by
  rw [← chunk s 0 (by decide) i]
  simp only [Nat.zero_add]

theorem count_chunks (g : Fin 4096 → Nat) :
    (∑ x : Fin 512, g ⟨0 + x.val, by omega⟩) + (∑ x : Fin 512, g ⟨512 + x.val, by omega⟩)
      + (∑ x : Fin 512, g ⟨1024 + x.val, by omega⟩) + (∑ x : Fin 512, g ⟨1536 + x.val, by omega⟩)
      + (∑ x : Fin 512, g ⟨2048 + x.val, by omega⟩) + (∑ x : Fin 512, g ⟨2560 + x.val, by omega⟩)
      + (∑ x : Fin 512, g ⟨3072 + x.val, by omega⟩) + (∑ x : Fin 512, g ⟨3584 + x.val, by omega⟩) = ∑ i, g i := by
  rw [← (finProdFinEquiv (m := 8) (n := 512)).sum_comp g, Fintype.sum_prod_type, Fin.sum_univ_eight]
  have e : ∀ (c : Fin 8) (o : Nat) (ho : o + 512 ≤ 4096), o = 512 * c.val →
      (∑ x : Fin 512, g ⟨o + x.val, by omega⟩) = ∑ y : Fin 512, g (finProdFinEquiv (c, y)) := fun c o ho h =>
    Finset.sum_congr rfl fun x _ => congrArg g (Fin.ext (by
      show o + x.val = x.val + 512 * c.val
      omega))
  rw [e 0 0 (by decide) rfl, e 1 512 (by decide) rfl, e 2 1024 (by decide) rfl, e 3 1536 (by decide) rfl, e 4 2048 (by decide) rfl,
    e 5 2560 (by decide) rfl, e 6 3072 (by decide) rfl, e 7 3584 (by decide) rfl]

theorem eight {a0 a1 a2 a3 a4 a5 a6 a7 : BitVec 32} {n0 n1 n2 n3 n4 n5 n6 n7 : Nat}
    (h0 : a0 = BitVec.ofNat 32 n0) (h1 : a1 = BitVec.ofNat 32 n1) (h2 : a2 = BitVec.ofNat 32 n2) (h3 : a3 = BitVec.ofNat 32 n3)
    (h4 : a4 = BitVec.ofNat 32 n4) (h5 : a5 = BitVec.ofNat 32 n5) (h6 : a6 = BitVec.ofNat 32 n6) (h7 : a7 = BitVec.ofNat 32 n7) :
    IntOp.addi (IntOp.addi (IntOp.addi (IntOp.addi (IntOp.addi (IntOp.addi (IntOp.addi (IntOp.addi 0#32 a0) a1) a2) a3) a4) a5) a6) a7
      = BitVec.ofNat 32 (n0 + n1 + n2 + n3 + n4 + n5 + n6 + n7) := by
  subst h0 h1 h2 h3 h4 h5 h6 h7
  simp only [BitVec.ofNat_add]
  show 0#32 + _ + _ + _ + _ + _ + _ + _ + _ = _
  rw [BitVec.zero_add]

/-- The column numbers. -/
def cols : IVec S512x4096 32 := iota .tc S512x4096 32 [1] Cert.SelectIdeal.Facts₀.iota_S512x4096_d1_w32

/-- The rank of a point: how many points come before it. -/
theorem ranks_at (s : Fin 4096 → EReal) (v17 : FVec Ideal S4096x1 .f32) (v26 : FVec Ideal S1x4096 .f32) (v29 : FVec Ideal S512x1 .f32)
    (h17 : ∀ i, v17 (ix2 i 0) = s i) (h26 : ∀ i, v26 (ix2 0 i) = s i)
    (h29 : ∀ i : Fin 512, v29 (ix2 i 0) = s ⟨i.val, by omega⟩) (i : Fin 4096) :
    k0_pay18 v17 v26 cols (k0_pay12 v17 v26 cols (k0_pay10 v17 v26 cols k0_pay7 v29 k0_pay9) (k0_pay11 v17 v26 cols)) k0_pay14
      (k0_pay15 v17 v26) (k0_pay16 v17) (k0_pay17 v26) (ix2 0 i)
      = BitVec.ofNat 32 (Finset.univ.filter fun j => before (fun k => -s k) j i = true).card := by
  unfold k0_pay18 k0_pay12 k0_pay10 k0_pay11 k0_pay14 k0_pay15 k0_pay16 k0_pay17 k0_pay9 k0_pay7 k0_pay13 cols
  pointwise [h17, h26, h29]
  refine (eight (chunk_first s i) (chunk s 512 (by decide) i) (chunk s 1024 (by decide) i) (chunk s 1536 (by decide) i)
    (chunk s 2048 (by decide) i) (chunk s 2560 (by decide) i) (chunk s 3072 (by decide) i) (chunk s 3584 (by decide) i)).trans ?_
  rw [Finset.card_filter]
  exact congrArg (BitVec.ofNat 32) (count_chunks fun j => if before (fun k => -s k) j i = true then 1 else 0)

/-- Where the points of rank below 512 are. -/
def pickAt (s : Fin 4096 → EReal) (r : Fin 512) : Fin 4096 := place (fun k => -s k) ⟨r.val, by omega⟩

/-- The squared distance of two points, as both programs expand it. -/
def dist (p q : Fin 3 → EReal) : EReal :=
  (p 0 * p 0 + p 1 * p 1 + p 2 * p 2) + (q 0 * q 0 + q 1 * q 1 + q 2 * q 2) - Ideal.ofBits FTy.f32 1073741824#32 * ∑ k, p k * q k

theorem dist_lt_top (p q : Fin 3 → EReal) (hp : ∀ k, ∃ a : ℝ, p k = a) (hq : ∀ k, ∃ a : ℝ, q k = a) : dist p q < ⊤ := by
  choose a ha using hp
  choose b hb using hq
  have e : Ideal.ofBits FTy.f32 1073741824#32 = ((2 : ℝ) : EReal) := by
    simp [Ideal.ofBits, Ideal.ieee]
    rw [← EReal.coe_mul]
    norm_num
  unfold dist
  simp only [Fin.sum_univ_three, ha, hb, e]
  norm_cast
  exact EReal.coe_lt_top _

theorem pts_at (i : Fin 4096) (k : Fin 3) : k0_pay2 x1 (ix2 i k) = x1 (ix3 0 i k) := by
  unfold k0_pay2
  pointwise

section Picked

variable (s : Fin 4096 → EReal) (ranks : IVec S1x4096 32) (rows : IVec S512x4096 32)
  (hranks : ∀ i : Fin 4096, ranks (ix2 0 i) = BitVec.ofNat 32 (Finset.univ.filter fun j => before (fun k => -s k) j i = true).card)
  (hrows : ∀ (r : Fin 512) (i : Fin 4096), rows (ix2 r i) = BitVec.ofNat 32 r.val)

include hranks hrows

theorem hot_at (r : Fin 512) (i : Fin 4096) : k0_pay19 (F := Ideal) ranks rows (ix2 r i) = if i = pickAt s r then (1 : EReal) else 0 := by
  unfold k0_pay19
  pointwise [hranks, hrows]
  have hc : (Finset.univ.filter fun j => before (fun k => -s k) j i = true).card ≤ 4096 := by
    simpa using Finset.card_filter_le (Finset.univ : Finset (Fin 4096)) (fun j => before (fun k => -s k) j i = true)
  have h := card_before_eq_iff (fun k => -s k) i ⟨r.val, by omega⟩
  have e : (BitVec.ofNat 32 (Finset.univ.filter fun j => before (fun k => -s k) j i = true).card = BitVec.ofNat 32 r.val)
      ↔ i = pickAt s r := by
    rw [show (i = pickAt s r) = (i = place (fun k => -s k) ⟨r.val, by omega⟩) from rfl, ← h]
    refine ⟨fun g => ?_, fun g => congrArg _ g⟩
    have := congrArg BitVec.toNat g
    simp only [BitVec.toNat_ofNat] at this
    have hr := r.isLt
    show _ = r.val
    omega
  by_cases g : i = pickAt s r
  · rw [if_pos g, e.mpr g]
    simp [Scalar.select, IntOp.cmpi]
  · rw [if_neg g]
    have e' : (BitVec.ofNat 32 (Finset.univ.filter fun j => before (fun k => -s k) j i = true).card == BitVec.ofNat 32 r.val) = false := by
      simpa using mt e.mp g
    simp [Scalar.select, IntOp.cmpi, e']

theorem hot_sum (r : Fin 512) (f : Fin 4096 → EReal) : ∑ i, k0_pay19 (F := Ideal) ranks rows (ix2 r i) * f i = f (pickAt s r) := by
  rw [Finset.sum_eq_single (pickAt s r)]
  · rw [hot_at s ranks rows hranks hrows, if_pos rfl, one_mul]
  · intro i _ h
    rw [hot_at s ranks rows hranks hrows, if_neg h, zero_mul]
  · intro h
    exact absurd (Finset.mem_univ _) h

theorem pay24_at (r : Fin 512) : k0_pay24 (k0_pay2 x1) ranks rows (ix2 r 0) = x1 (ix3 0 (pickAt s r) 0) := by
  refine Eq.trans ?_ (hot_sum s ranks rows hranks hrows r fun i => x1 (ix3 0 i 0))
  unfold k0_pay24 k0_pay21 k0_pay20 k0_pay2
  pointwise

theorem pay25_at (r : Fin 512) : k0_pay25 (k0_pay2 x1) ranks rows (ix2 r 0) = x1 (ix3 0 (pickAt s r) 1) := by
  refine Eq.trans ?_ (hot_sum s ranks rows hranks hrows r fun i => x1 (ix3 0 i 1))
  unfold k0_pay25 k0_pay22 k0_pay20 k0_pay2
  pointwise

theorem pay26_at (r : Fin 512) : k0_pay26 (k0_pay2 x1) ranks rows (ix2 r 0) = x1 (ix3 0 (pickAt s r) 2) := by
  refine Eq.trans ?_ (hot_sum s ranks rows hranks hrows r fun i => x1 (ix3 0 i 2))
  unfold k0_pay26 k0_pay23 k0_pay20 k0_pay2
  pointwise

theorem pay27_at (r : Fin 512) (k : Fin 3) : k0_pay27 (k0_pay2 x1) ranks rows (ix2 r k) = x1 (ix3 0 (pickAt s r) k) := by
  unfold k0_pay27
  pointwise [pay24_at x1 s ranks rows hranks hrows, pay25_at x1 s ranks rows hranks hrows, pay26_at x1 s ranks rows hranks hrows]
  fin_cases k
  · exact pay24_at x1 s ranks rows hranks hrows r
  · exact pay25_at x1 s ranks rows hranks hrows r
  · exact pay26_at x1 s ranks rows hranks hrows r

/-- The picked points. -/
theorem pay28_at (r : Fin 512) (k : Fin 3) : k0_pay28 (k0_pay2 x1) ranks rows (ix3 0 r k) = x1 (ix3 0 (pickAt s r) k) := by
  unfold k0_pay28
  pointwise [pay27_at x1 s ranks rows hranks hrows]

theorem pay29_at (r : Fin 512) : k0_pay29 (k0_pay2 x1) ranks rows (ix2 r 0)
    = x1 (ix3 0 (pickAt s r) 0) * x1 (ix3 0 (pickAt s r) 0) + x1 (ix3 0 (pickAt s r) 1) * x1 (ix3 0 (pickAt s r) 1)
      + x1 (ix3 0 (pickAt s r) 2) * x1 (ix3 0 (pickAt s r) 2) := by
  unfold k0_pay29
  pointwise [pay24_at x1 s ranks rows hranks hrows, pay25_at x1 s ranks rows hranks hrows, pay26_at x1 s ranks rows hranks hrows]

/-- The distances from the picked points. -/
theorem pay30_at (r : Fin 512) (i : Fin 4096) : k0_pay30 (k0_pay2 x1) ranks rows (ix3 0 r i)
    = dist (fun k => x1 (ix3 0 (pickAt s r) k)) (fun k => x1 (ix3 0 i k)) := by
  unfold k0_pay30 k0_pay23 k0_pay22 k0_pay21 k0_pay20 dist
  pointwise [pay27_at x1 s ranks rows hranks hrows, pay29_at x1 s ranks rows hranks hrows, pts_at]

/-- The distances to the picked points. -/
theorem pay1_at (r : Fin 512) (i : Fin 4096) :
    k0_pay1 (k0_pay2 x1) (k0_pay27 (k0_pay2 x1) ranks rows) (k0_pay29 (k0_pay2 x1) ranks rows) (ix3 0 i r)
      = dist (fun k => x1 (ix3 0 i k)) (fun k => x1 (ix3 0 (pickAt s r) k)) := by
  unfold k0_pay1 dist
  pointwise [pay27_at x1 s ranks rows hranks hrows, pay29_at x1 s ranks rows hranks hrows, pts_at]

end Picked

theorem slice_at (i : Fin 512) : k0_pay8 x0 x2 x3 x4 x5 (ix2 i 0) = score x0 x2 x3 x4 x5 ⟨i.val, by omega⟩ := by
  unfold k0_pay8
  pointwise [score_at]

theorem ld_pts : k0_pay32 x0 x1 x2 x3 x4 x5 = k0_pay2 x1 := by
  unfold k0_pay32
  frame_out

theorem rows35_at (r : Fin 512) (i : Fin 4096) : k0_pay35 x0 x1 x2 x3 x4 x5 (ix2 r i) = BitVec.ofNat 32 r.val := by
  unfold k0_pay35
  pointwise

theorem ranks36_at (i : Fin 4096) : k0_pay36 x0 x1 x2 x3 x4 x5 (ix2 0 i)
    = BitVec.ofNat 32 (Finset.univ.filter fun j => before (fun k => -score x0 x2 x3 x4 x5 k) j i = true).card := by
  refine Eq.trans ?_ (ranks_at (score x0 x2 x3 x4 x5) (k0_pay3 x0 x2 x3 x4 x5) (k0_pay6 x0 x2 x3 x4 x5) (k0_pay8 x0 x2 x3 x4 x5)
    (score_at x0 x2 x3 x4 x5) (row_at x0 x2 x3 x4 x5) (slice_at x0 x2 x3 x4 x5) i)
  unfold k0_pay36 k0_pay31 k0_pay33 k0_pay34 cols
  frame_out

end Cert.Proof.SelectPrep

end
-- ==== Proof.SelectReference.lean ====
/-
  The selection's reference, read at an index: the scores, the points picked by them, the squared distances, and the
  places of the nearest points.
-/
module

public import Idealize.ShloMosaic.Lib.Claim
public import Idealize.ShloMosaic.Lib.Tactic.CleanTypes
public import proofs.«01_k».proof.Proof.Gen.SelectReferenceIdeal.Run
public import proofs.«01_k».proof.Proof.Rows
public import proofs.«01_k».proof.Proof.Weighted
public import proofs.«01_k».proof.Proof.SelectPrep

@[expose] public section

set_option maxRecDepth 16384

noncomputable section

namespace Cert.Proof.SelectReference

open Idealize.ShloMosaic
open Idealize.SL.Sem
open Cert.SelectReferenceIdeal
open Cert.SelectReferenceIdeal.Facts₀
open Cert.Proof.SelectOrder Cert.Proof.SelectPrep Cert.Proof.SelectBlocks
open Cert.Proof.Weighted (wrap_eq inside_eq clamp_eq fold_one)

/-! ## The reference in five pieces -/

/-- The scores of all points. -/
def scores (a0 : FVec Ideal S4x4096x128 .f32) (a2 : FVec Ideal S128x64 .f32) (a3 : FVec Ideal S64 .f32) (a4 : FVec Ideal S64x1 .f32)
    (a5 : FVec Ideal S1 .f32) : FVec Ideal S4x4096x1 .f32 :=
  Host.divf (broadcastInDim S4x4096x1 ![] bcast_S_S4x4096x1 (constant S_ .f32 0x3F800000#32))
    (addf (broadcastInDim S4x4096x1 ![] bcast_S_S4x4096x1 (constant S_ .f32 0x3F800000#32))
      (Host.exp (Host.negf (addf
        (Host.dotGeneral dot_S4x4096x64_S64x1_S4x4096x1_2_0_01_1_n_n none
          (Host.tanh (addf (Host.dotGeneral dot_S4x4096x128_S128x64_S4x4096x64_2_0_01_1_n_n none a0 a2)
            (broadcastInDim S4x4096x64 ![0, 1, 2] bcast_S1x1x64_S4x4096x64_0_1_2 (broadcastInDim S1x1x64 ![2] bcast_S64_S1x1x64_2 a3)))) a4)
        (broadcastInDim S4x4096x1 ![0, 1, 2] bcast_S1x1x1_S4x4096x1_0_1_2 (broadcastInDim S1x1x1 ![2] bcast_S1_S1x1x1_2 a5))))))

/-- The points in the order of their scores, the greatest first: the first 512. -/
def order (s : FVec Ideal S4x4096x1 .f32) : IVec S4x512x1 32 :=
  broadcastInDim S4x512x1 ![0, 1] bcast_S4x512_S4x512x1_0_1 (extractStridedSlice S4x512 ![0, 0]
    ((Host.sort2 S4x4096 1 (comparator_f32_i32_d1 (F := Ideal)) (Host.negf (shapeCast _ s shapeCasts_S4x4096x1_S4x4096))
      (iotaInDim S4x4096 32 1)).2) slices_S4x4096_S4x512_0_0)

/-- An index, counted from the end where it is negative. -/
def wrapped (o : IVec S4x512x1 32) : IVec S4x512x1 32 :=
  select (cmpi .slt o (broadcastInDim S4x512x1 ![] bcast_S_S4x512x1 (constantI S_ 32 0#32)))
    (addi o (broadcastInDim S4x512x1 ![] bcast_S_S4x512x1 (constantI S_ 32 4096#32))) o

/-- The points the indices name. -/
def taken (x : FVec Ideal S4x4096x3 .f32) (o : IVec S4x512x1 32) : FVec Ideal S4x512x3 .f32 :=
  shapeCast _ (shapeCast _ (select (broadcastInDim S4x512x3 ![0, 1] bcast_S4x512_S4x512x3_0_1
      (Host.reduce IntOp.andi
        (andi (cmpi .sge (wrapped o) (broadcastInDim S4x512x1 ![] bcast_S_S4x512x1 (constantI S_ 32 0#32)))
          (cmpi .sle (wrapped o) (broadcastInDim S4x512x1 ![0, 1, 2] bcast_S1x1x1_S4x512x1_0_1_2
            (broadcastInDim S1x1x1 ![2] bcast_S1_S1x1x1_2 (constantI S1 32 4095#32)))))
        (constantI S_ 1 1#1) reducesTo_S4x512x1_S4x512_d2 h_S_))
    (Host.gather gather_S4x4096x3_S4x512x1_S4x512x3_2_1_0_0_1_2_113 x (wrapped o))
    (broadcastInDim S4x512x3 ![] bcast_S_S4x512x3 (constant S_ .f32 0x7FC00000#32))) shapeCasts_S4x512x3_S4x512x1x3)
    shapeCasts_S4x512x1x3_S4x512x3

/-- Of every picked point, the squared distances to all points. -/
def far (v : FVec Ideal S4x512x3 .f32) (x : FVec Ideal S4x4096x3 .f32) : FVec Ideal S4x512x4096 .f32 :=
  subf (addf
      (broadcastInDim S4x512x4096 ![0, 1, 2] bcast_S4x512x1_S4x512x4096_0_1_2 (broadcastInDim S4x512x1 ![0, 1] bcast_S4x512_S4x512x1_0_1
        (Host.reduceAdd (mulf v v) (constant S_ .f32 0x00000000#32) reducesTo_S4x512x3_S4x512_d2 h_S_)))
      (broadcastInDim S4x512x4096 ![0, 1, 2] bcast_S4x1x4096_S4x512x4096_0_1_2 (broadcastInDim S4x1x4096 ![0, 2] bcast_S4x4096_S4x1x4096_0_2
        (Host.reduceAdd (mulf x x) (constant S_ .f32 0x00000000#32) reducesTo_S4x4096x3_S4x4096_d2 h_S_))))
    (mulf (broadcastInDim S4x512x4096 ![] bcast_S_S4x512x4096 (constant S_ .f32 0x40000000#32))
      (Host.dotGeneral dot_S4x512x3_S4x4096x3_S4x512x4096_2_2_1_1_0_0 none v x))

/-- Of every point, the squared distances to the picked points. -/
def back (v : FVec Ideal S4x512x3 .f32) (x : FVec Ideal S4x4096x3 .f32) : FVec Ideal S4x4096x512 .f32 :=
  subf (addf
      (broadcastInDim S4x4096x512 ![0, 1, 2] bcast_S4x4096x1_S4x4096x512_0_1_2 (broadcastInDim S4x4096x1 ![0, 1] bcast_S4x4096_S4x4096x1_0_1
        (Host.reduceAdd (mulf x x) (constant S_ .f32 0x00000000#32) reducesTo_S4x4096x3_S4x4096_d2 h_S_)))
      (broadcastInDim S4x4096x512 ![0, 1, 2] bcast_S4x1x512_S4x4096x512_0_1_2 (broadcastInDim S4x1x512 ![0, 2] bcast_S4x512_S4x1x512_0_2
        (Host.reduceAdd (mulf v v) (constant S_ .f32 0x00000000#32) reducesTo_S4x512x3_S4x512_d2 h_S_))))
    (mulf (broadcastInDim S4x4096x512 ![] bcast_S_S4x4096x512 (constant S_ .f32 0x40000000#32))
      (Host.dotGeneral dot_S4x4096x3_S4x512x3_S4x4096x512_2_2_1_1_0_0 none x v))

/-- The places of the 27 nearest of 4096. -/
def least1 (d : FVec Ideal S4x512x4096 .f32) : IVec S4x512x27 32 :=
  (Host.topK S4x512x27 2 (FloatOps.cmpfTotal (F := Ideal) (φ := .f32) .gt) (Host.negf d) sliceFits_S4x512x4096_S4x512x27).2

/-- The places of the 27 nearest of 512. -/
def least2 (d : FVec Ideal S4x4096x512 .f32) : IVec S4x4096x27 32 :=
  (Host.topK S4x4096x27 2 (FloatOps.cmpfTotal (F := Ideal) (φ := .f32) .gt) (Host.negf d) sliceFits_S4x4096x512_S4x4096x27).2

/-! ## Each piece at an index -/

theorem scores_at (a0 : FVec Ideal S4x4096x128 .f32) (a2 : FVec Ideal S128x64 .f32) (a3 : FVec Ideal S64 .f32) (a4 : FVec Ideal S64x1 .f32)
    (a5 : FVec Ideal S1 .f32) (x3 : FVec Ideal ⟨2, ![1, 64]⟩ .f32) (x5 : FVec Ideal ⟨2, ![1, 1]⟩ .f32) (h3 : ∀ k, x3 (ix2 0 k) = a3 (ix1 k))
    (h5 : x5 (ix2 0 0) = a5 (ix1 0)) (b : Fin 4) (i : Fin 4096) :
    scores a0 a2 a3 a4 a5 (ix3 b i 0) = score (batch a0 b) a2 x3 a4 x5 i := by
  unfold scores score Ideal.logistic
  pointwise [h3, h5]
  rfl

theorem comes_first (l r : EReal × BitVec 32) :
    (comparator_f32_i32_d1 (F := Ideal) l r == 1#1) = true ↔ l.1 < r.1 := by
  have z : ∀ x : EReal, Scalar.select (FloatOps.cmpf (F := Ideal) (φ := .f32) .une x x) (FloatOps.ofBits (F := Ideal) .f32 0x7FC00000#32)
      (Scalar.select (FloatOps.cmpf (F := Ideal) (φ := .f32) .oeq x (FloatOps.ofBits (F := Ideal) .f32 0x00000000#32))
        (FloatOps.ofBits (F := Ideal) .f32 0x00000000#32) x) = x := by
    intro x
    pointwise
    rw [if_neg (not_not.mpr rfl)]
    split
    · next h => exact h.symm
    · rfl
  have e : comparator_f32_i32_d1 (F := Ideal) l r = BitVec.ofBool (decide (l.1 < r.1)) := by
    unfold comparator_f32_i32_d1
    dsimp only
    rw [z, z]
    rfl
  rw [e, beq_iff_eq, StableHlo.Predicate.ofBool_eq_one_iff, decide_eq_true_iff]

theorem greater_first (l r : EReal × BitVec 32) :
    (FloatOps.cmpfTotal (F := Ideal) (φ := .f32) .gt l.1 r.1 == 1#1) = true ↔ r.1 < l.1 := by
  have e : FloatOps.cmpfTotal (F := Ideal) (φ := .f32) .gt l.1 r.1 = BitVec.ofBool (decide (r.1 < l.1)) := rfl
  rw [e, beq_iff_eq, StableHlo.Predicate.ofBool_eq_one_iff, decide_eq_true_iff]

/-- Sorting rows by an order of their first components: the positions carried along are the places in that order. -/
theorem sorted2_at {A n : ℕ} (cmp : EReal × BitVec 32 → EReal × BitVec 32 → BitVec 1) (x : (⟨2, ![A, n]⟩ : Shape).Idx → EReal) (b : Fin A)
    (key : Fin n → EReal) (hcmp : ∀ i j w w', (cmp (x (ix2 b i), w) (x (ix2 b j), w') == 1#1) = true ↔ key i < key j) (r : Fin n) :
    (Host.sort2 ⟨2, ![A, n]⟩ 1 cmp x (iotaInDim ⟨2, ![A, n]⟩ 32 1)).2 (ix2 b r) = BitVec.ofNat 32 (place key r).val := by
  have al : ∀ k : Fin n, Shape.Idx.along (ix2 b r : (⟨2, ![A, n]⟩ : Shape).Idx) 1 k = ix2 b k := fun k => funext fun
    | 0 => rfl
    | 1 => rfl
  refine congrArg (fun q : Fin n => BitVec.ofNat 32 q.val) (sortedFrom_lt key _ (fun i j => ?_) r)
  show (cmp (x (Shape.Idx.along (ix2 b r : (⟨2, ![A, n]⟩ : Shape).Idx) 1 i), _) (x (Shape.Idx.along (ix2 b r : (⟨2, ![A, n]⟩ : Shape).Idx) 1 j), _)
    == 1#1) = true ↔ _
  rw [al, al]
  exact hcmp i j _ _

theorem sorted3_at {A B n : ℕ} (cmp : EReal × BitVec 32 → EReal × BitVec 32 → BitVec 1) (x : (⟨3, ![A, B, n]⟩ : Shape).Idx → EReal)
    (a : Fin A) (b : Fin B) (key : Fin n → EReal)
    (hcmp : ∀ i j w w', (cmp (x (ix3 a b i), w) (x (ix3 a b j), w') == 1#1) = true ↔ key i < key j) (r : Fin n) :
    (Host.sort2 ⟨3, ![A, B, n]⟩ 2 cmp x (iotaInDim ⟨3, ![A, B, n]⟩ 32 2)).2 (ix3 a b r) = BitVec.ofNat 32 (place key r).val := by
  have al : ∀ k : Fin n, Shape.Idx.along (ix3 a b r : (⟨3, ![A, B, n]⟩ : Shape).Idx) 2 k = ix3 a b k := fun k => funext fun
    | 0 => rfl
    | 1 => rfl
    | 2 => rfl
  refine congrArg (fun q : Fin n => BitVec.ofNat 32 q.val) (sortedFrom_lt key _ (fun i j => ?_) r)
  show (cmp (x (Shape.Idx.along (ix3 a b r : (⟨3, ![A, B, n]⟩ : Shape).Idx) 2 i), _)
    (x (Shape.Idx.along (ix3 a b r : (⟨3, ![A, B, n]⟩ : Shape).Idx) 2 j), _) == 1#1) = true ↔ _
  rw [al, al]
  exact hcmp i j _ _

/-- The positions of the first few in the order are the first few positions of the whole order. -/
theorem topK_at {A B n K : ℕ} (gt : EReal → EReal → BitVec 1) (x : (⟨3, ![A, B, n]⟩ : Shape).Idx → EReal)
    (h : (⟨3, ![A, B, n]⟩ : Shape).Slices (fun _ => 0) ⟨3, ![A, B, K]⟩) (a : Fin A) (b : Fin B) (k : Fin K) (hk : k.val < n) :
    (Host.topK ⟨3, ![A, B, K]⟩ 2 gt x h).2 (ix3 a b k)
      = (Host.sort2 ⟨3, ![A, B, n]⟩ 2 (fun l r => gt l.1 r.1) x (iotaInDim ⟨3, ![A, B, n]⟩ 32 2)).2 (ix3 a b ⟨k.val, hk⟩) := by
  unfold Host.topK
  dsimp only
  have e : (fun i => if hd : 2 < (⟨3, ![A, B, n]⟩ : Shape).rank then iotaInDim ⟨3, ![A, B, n]⟩ 32 ⟨2, hd⟩ i else 0#32)
      = iotaInDim ⟨3, ![A, B, n]⟩ 32 2 := funext fun i => dif_pos (by decide : 2 < 3)
  rw [e]
  unfold extractStridedSlice
  generalize (Host.sort2 ⟨3, ![A, B, n]⟩ 2 (fun l r => gt l.1 r.1) x (iotaInDim ⟨3, ![A, B, n]⟩ 32 2)).2 = f
  refine congrArg f (funext fun
    | 0 => Fin.ext (Nat.zero_add _)
    | 1 => Fin.ext (Nat.zero_add _)
    | 2 => Fin.ext (Nat.zero_add _))

theorem order_at (s : FVec Ideal S4x4096x1 .f32) (b : Fin 4) (r : Fin 512) :
    order s (ix3 b r 0) = BitVec.ofNat 32 (pickAt (fun i => s (ix3 b i 0)) r).val := by
  unfold order
  pointwise
  refine sorted2_at _ _ b _ (fun i j w w' => (comes_first _ _).trans ?_) _
  pointwise

theorem points_gather (x : FVec Ideal S4x4096x3 .f32) (i : IVec S4x512x1 32) (b : Fin 4) (j : Fin 512) (c : Fin 3) :
    Host.gather gather_S4x4096x3_S4x512x1_S4x512x3_2_1_0_0_1_2_113 x i (ix3 b j c)
      = x (ix3 b ⟨min (i (ix3 b j 0)).toInt.toNat 4095, by omega⟩ c) :=
  Rows.gather_at 3 _ x i b j c

theorem taken_at (x : FVec Ideal S4x4096x3 .f32) (o : IVec S4x512x1 32) (p : Fin 4 → Fin 512 → Fin 4096)
    (ho : ∀ b r, o (ix3 b r 0) = BitVec.ofNat 32 (p b r).val) (b : Fin 4) (r : Fin 512) (k : Fin 3) :
    taken x o (ix3 b r k) = x (ix3 b (p b r) k) := by
  unfold taken wrapped
  have hp : ∀ r, (o (ix3 b r 0)).toNat < 4096 := fun r => by
    rw [ho, BitVec.toNat_ofNat]
    exact (Nat.mod_le _ _).trans_lt (p b r).isLt
  have hz : ∀ y : Fin 1, (o (ix3 b r y)).toNat < 4096 := fun y => by
    rw [Subsingleton.elim y 0]
    exact hp r
  pointwise [points_gather]
  simp only [wrap_eq _ (hz _), wrap_eq _ (hp _), inside_eq _ (hz _), clamp_eq _ (hp _), fold_one, ValueIdx.select_one]
  refine congrArg (fun y => x (ix3 b y k)) (Fin.ext ?_)
  show min (o (ix3 b r 0)).toNat 4095 = (p b r).val
  have := (p b r).isLt
  rw [ho, BitVec.toNat_ofNat]
  omega

theorem far_at (v : FVec Ideal S4x512x3 .f32) (x : FVec Ideal S4x4096x3 .f32) (b : Fin 4) (r : Fin 512) (i : Fin 4096) :
    far v x (ix3 b r i) = SelectPrep.dist (fun k => v (ix3 b r k)) (fun k => x (ix3 b i k)) := by
  unfold far SelectPrep.dist
  pointwise
  rw [Fin.sum_univ_three, Fin.sum_univ_three]

theorem back_at (v : FVec Ideal S4x512x3 .f32) (x : FVec Ideal S4x4096x3 .f32) (b : Fin 4) (r : Fin 512) (i : Fin 4096) :
    back v x (ix3 b i r) = SelectPrep.dist (fun k => x (ix3 b i k)) (fun k => v (ix3 b r k)) := by
  unfold back SelectPrep.dist
  pointwise
  rw [Fin.sum_univ_three, Fin.sum_univ_three]

theorem least1_at (d : FVec Ideal S4x512x4096 .f32) (b : Fin 4) (r : Fin 512) (k : Fin 27) :
    least1 d (ix3 b r k) = BitVec.ofNat 32 (place (fun i => d (ix3 b r i)) ⟨k.val, by omega⟩).val := by
  refine Eq.trans ?_ (sorted3_at (fun l r => FloatOps.cmpfTotal (F := Ideal) (φ := .f32) .gt l.1 r.1) (Host.negf (F := Ideal) (φ := .f32) d) b r _
    (fun i j w w' => (greater_first _ _).trans ?_) _)
  · unfold least1
    exact topK_at _ _ sliceFits_S4x512x4096_S4x512x27 b r k _
  · exact EReal.neg_lt_neg_iff

theorem least2_at (d : FVec Ideal S4x4096x512 .f32) (b : Fin 4) (r : Fin 4096) (k : Fin 27) :
    least2 d (ix3 b r k) = BitVec.ofNat 32 (place (fun i => d (ix3 b r i)) ⟨k.val, by omega⟩).val := by
  refine Eq.trans ?_ (sorted3_at (fun l r => FloatOps.cmpfTotal (F := Ideal) (φ := .f32) .gt l.1 r.1) (Host.negf (F := Ideal) (φ := .f32) d) b r _
    (fun i j w w' => (greater_first _ _).trans ?_) _)
  · unfold least2
    exact topK_at _ _ sliceFits_S4x4096x512_S4x4096x27 b r k _
  · exact EReal.neg_lt_neg_iff

/-! ## The run -/

theorem run (m : (ℓ : Loc nD τ sig) → Buf (Elt Ideal) ℓ) (g : Dev nD → PrngReg) :
    θ_run (Cert.SelectReferenceIdeal.defs (F := Ideal)) (onTc (τ := τ) (Cert.SelectReferenceIdeal.main (F := Ideal))) ⟨m, fun _ => 0, g⟩
      (fun r => ∀ c : Dev nD, ∃ (s : FVec Ideal S4x4096x1 .f32) (x : FVec Ideal S4x4096x3 .f32) (v : FVec Ideal S4x512x3 .f32),
        s = scores (m ((c.tc : Thread nD τ).loc main_arg0)) (m ((c.tc : Thread nD τ).loc main_arg2)) (m ((c.tc : Thread nD τ).loc main_arg3))
            (m ((c.tc : Thread nD τ).loc main_arg4)) (m ((c.tc : Thread nD τ).loc main_arg5))
          ∧ x = m ((c.tc : Thread nD τ).loc main_arg1) ∧ v = taken x (order s)
          ∧ r.2.mem ((c.tc : Thread nD τ).loc main_v22) = v
          ∧ r.2.mem ((c.tc : Thread nD τ).loc main_v14) = s
          ∧ r.2.mem ((c.tc : Thread nD τ).loc main_indices) = least1 (far v x)
          ∧ r.2.mem ((c.tc : Thread nD τ).loc main_indices_8) = least2 (back v x)
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)) :=
  (θ_run Cert.SelectReferenceIdeal.defs _ _).mono (fun _ h c =>
    ⟨_, _, _, rfl, rfl, rfl, (h c).1, (h c).2.1, (h c).2.2.1, (h c).2.2.2.1, (h c).2.2.2.2⟩)
    (Cert.SelectReferenceIdeal.Value.run m g)

end Cert.Proof.SelectReference

end
-- ==== Proof.SelectResults.lean ====
/-
  The three TensorCore calls and the reference's selection have the same results: first the scores, the picked points
  and the distances, then, where the distances are below +∞, the nearest points.
-/
module

public import proofs.«01_k».proof.Proof.SelectRun
public import proofs.«01_k».proof.Proof.SelectNearest
public import proofs.«01_k».proof.Proof.SelectReference
public import proofs.«01_k».proof.Pre_points_finite
public import Idealize.ShloMosaic.Lib.IdealHost

@[expose] public section

set_option maxRecDepth 16384

noncomputable section

namespace Cert.Proof.SelectResults

open Idealize.ShloMosaic Idealize.ShloMosaic.TcCoe
open Idealize.SL.Sem
open Cert.SelectIdeal Cert.SelectIdeal.Gen
open Cert.Proof.SelectOrder Cert.Proof.SelectPrep Cert.Proof.SelectBlocks Cert.Proof.SelectNearest
open Cert.Proof.SelectReference (scores order taken far back least1 least2 scores_at order_at taken_at far_at back_at least1_at least2_at)

theorem unbatch_ix {n k : Nat} {T : Type} (f : Fin 4 → Shape.Idx ⟨3, ![1, n, k]⟩ → T) (b : Fin 4) (r : Fin n) (x : Fin k) :
    unbatch f (ix3 b r x) = f b (ix3 0 r x) := rfl

theorem batch_ix {n k : Nat} {T : Type} (X : Shape.Idx ⟨3, ![4, n, k]⟩ → T) (b : Fin 4) (r : Fin n) (x : Fin k) :
    batch X b (ix3 0 r x) = X (ix3 b r x) := rfl

section Arrays

variable (a0 : FVec Ideal S4x4096x128 .f32) (a1 : FVec Ideal S4x4096x3 .f32) (a2 : FVec Ideal S128x64 .f32)
  (a3 : FVec Ideal S64 .f32) (a4 : FVec Ideal S64x1 .f32) (a5 : FVec Ideal S1 .f32)
  (x3 : FVec Ideal S1x64 .f32) (x5 : FVec Ideal S1x1 .f32) (h3 : ∀ k, x3 (ix2 0 k) = a3 (ix1 k)) (h5 : x5 (ix2 0 0) = a5 (ix1 0))

include h3 h5

theorem score_eq (b : Fin 4) : (fun i => scores a0 a2 a3 a4 a5 (ix3 b i 0)) = score (batch a0 b) a2 x3 a4 x5 :=
  funext fun i => scores_at a0 a2 a3 a4 a5 x3 x5 h3 h5 b i

theorem scores_eq : (unbatch fun b => k0_pay4 (F := Ideal) (batch a0 b) a2 x3 a4 x5) = scores a0 a2 a3 a4 a5 := by
  funext i
  obtain ⟨b, r, k, rfl⟩ : ∃ (b : Fin 4) (r : Fin 4096) (k : Fin 1), i = ix3 b r k := ⟨i 0, i 1, i 2, eq_ix3 i⟩
  rw [Subsingleton.elim k 0, scores_at a0 a2 a3 a4 a5 x3 x5 h3 h5]
  exact score4_at (batch a0 b) a2 x3 a4 x5 r

/-- A picked point of a batch. -/
theorem picked_at (b : Fin 4) (r : Fin 512) (k : Fin 3) :
    taken a1 (order (scores a0 a2 a3 a4 a5)) (ix3 b r k) = a1 (ix3 b (pickAt (score (batch a0 b) a2 x3 a4 x5) r) k) :=
  taken_at a1 _ (fun b r => pickAt (score (batch a0 b) a2 x3 a4 x5) r)
    (fun b r => (order_at _ b r).trans (by rw [score_eq a0 a2 a3 a4 a5 x3 x5 h3 h5 b])) b r k

theorem points_eq : (unbatch fun b =>
      k0_pay28 (k0_pay32 (F := Ideal) (batch a0 b) (batch a1 b) a2 x3 a4 x5) (k0_pay36 (F := Ideal) (batch a0 b) (batch a1 b) a2 x3 a4 x5)
        (k0_pay35 (F := Ideal) (batch a0 b) (batch a1 b) a2 x3 a4 x5)) = taken a1 (order (scores a0 a2 a3 a4 a5)) := by
  funext i
  obtain ⟨b, r, k, rfl⟩ : ∃ (b : Fin 4) (r : Fin 512) (k : Fin 3), i = ix3 b r k := ⟨i 0, i 1, i 2, eq_ix3 i⟩
  rw [picked_at a0 a1 a2 a3 a4 a5 x3 x5 h3 h5]
  rw [unbatch_ix, ld_pts]
  rw [pay28_at (batch a1 b) (score (batch a0 b) a2 x3 a4 x5) (k0_pay36 (F := Ideal) (batch a0 b) (batch a1 b) a2 x3 a4 x5) (k0_pay35 (F := Ideal) (batch a0 b) (batch a1 b) a2 x3 a4 x5)
    (ranks36_at (batch a0 b) (batch a1 b) a2 x3 a4 x5) (rows35_at (batch a0 b) (batch a1 b) a2 x3 a4 x5) r k]
  rw [batch_ix]

theorem far_eq : (unbatch fun b =>
      k0_pay30 (k0_pay32 (F := Ideal) (batch a0 b) (batch a1 b) a2 x3 a4 x5) (k0_pay36 (F := Ideal) (batch a0 b) (batch a1 b) a2 x3 a4 x5)
        (k0_pay35 (F := Ideal) (batch a0 b) (batch a1 b) a2 x3 a4 x5)) = far (taken a1 (order (scores a0 a2 a3 a4 a5))) a1 := by
  funext i
  obtain ⟨b, r, k, rfl⟩ : ∃ (b : Fin 4) (r : Fin 512) (k : Fin 4096), i = ix3 b r k := ⟨i 0, i 1, i 2, eq_ix3 i⟩
  rw [far_at]
  simp only [picked_at a0 a1 a2 a3 a4 a5 x3 x5 h3 h5]
  rw [unbatch_ix, ld_pts]
  rw [pay30_at (batch a1 b) (score (batch a0 b) a2 x3 a4 x5) (k0_pay36 (F := Ideal) (batch a0 b) (batch a1 b) a2 x3 a4 x5) (k0_pay35 (F := Ideal) (batch a0 b) (batch a1 b) a2 x3 a4 x5)
    (ranks36_at (batch a0 b) (batch a1 b) a2 x3 a4 x5) (rows35_at (batch a0 b) (batch a1 b) a2 x3 a4 x5) r k]
  simp only [batch_ix]

theorem back_eq : (unbatch fun b =>
      k0_pay1 (k0_pay32 (F := Ideal) (batch a0 b) (batch a1 b) a2 x3 a4 x5)
        (k0_pay27 (k0_pay32 (F := Ideal) (batch a0 b) (batch a1 b) a2 x3 a4 x5) (k0_pay36 (F := Ideal) (batch a0 b) (batch a1 b) a2 x3 a4 x5)
          (k0_pay35 (F := Ideal) (batch a0 b) (batch a1 b) a2 x3 a4 x5))
        (k0_pay29 (k0_pay32 (F := Ideal) (batch a0 b) (batch a1 b) a2 x3 a4 x5) (k0_pay36 (F := Ideal) (batch a0 b) (batch a1 b) a2 x3 a4 x5)
          (k0_pay35 (F := Ideal) (batch a0 b) (batch a1 b) a2 x3 a4 x5))) = back (taken a1 (order (scores a0 a2 a3 a4 a5))) a1 := by
  funext i
  obtain ⟨b, k, r, rfl⟩ : ∃ (b : Fin 4) (k : Fin 4096) (r : Fin 512), i = ix3 b k r := ⟨i 0, i 1, i 2, eq_ix3 i⟩
  rw [back_at]
  simp only [picked_at a0 a1 a2 a3 a4 a5 x3 x5 h3 h5]
  rw [unbatch_ix, ld_pts]
  rw [pay1_at (batch a1 b) (score (batch a0 b) a2 x3 a4 x5) (k0_pay36 (F := Ideal) (batch a0 b) (batch a1 b) a2 x3 a4 x5) (k0_pay35 (F := Ideal) (batch a0 b) (batch a1 b) a2 x3 a4 x5)
    (ranks36_at (batch a0 b) (batch a1 b) a2 x3 a4 x5) (rows35_at (batch a0 b) (batch a1 b) a2 x3 a4 x5) r k]
  simp only [batch_ix]

variable (hf : ∀ i, ∃ a : ℝ, a1 i = (a : EReal))

include hf

theorem far_lt_top (i) : far (taken a1 (order (scores a0 a2 a3 a4 a5))) a1 i < ⊤ := by
  obtain ⟨b, r, k, rfl⟩ : ∃ (b : Fin 4) (r : Fin 512) (k : Fin 4096), i = ix3 b r k := ⟨i 0, i 1, i 2, eq_ix3 i⟩
  rw [far_at]
  simp only [picked_at a0 a1 a2 a3 a4 a5 x3 x5 h3 h5]
  exact dist_lt_top _ _ (fun _ => hf _) (fun _ => hf _)

theorem back_lt_top (i) : back (taken a1 (order (scores a0 a2 a3 a4 a5))) a1 i < ⊤ := by
  obtain ⟨b, k, r, rfl⟩ : ∃ (b : Fin 4) (k : Fin 4096) (r : Fin 512), i = ix3 b k r := ⟨i 0, i 1, i 2, eq_ix3 i⟩
  rw [back_at]
  simp only [picked_at a0 a1 a2 a3 a4 a5 x3 x5 h3 h5]
  exact dist_lt_top _ _ (fun _ => hf _) (fun _ => hf _)

end Arrays

theorem least1_eq (d : FVec Ideal S4x512x4096 .f32) (hd : ∀ i, d i < (⊤ : EReal)) :
    (unbatch fun b => k1_pay12 (rounds1 (batch d b)).2.1 (rounds1 (batch d b)).2.2.2) = least1 d := by
  funext i
  obtain ⟨b, r, k, rfl⟩ : ∃ (b : Fin 4) (r : Fin 512) (k : Fin 27), i = ix3 b r k := ⟨i 0, i 1, i 2, eq_ix3 i⟩
  rw [least1_at]
  exact nearest1 (batch d b) (fun r i => d (ix3 b r i)) (fun _ _ => hd _) (fun _ _ => rfl) r k

theorem least2_eq (d : FVec Ideal S4x4096x512 .f32) (hd : ∀ i, d i < (⊤ : EReal)) :
    (unbatch fun b => k2_pay11 (rounds2 (batch d b)).2.1 (rounds2 (batch d b)).2.2.2) = least2 d := by
  funext i
  obtain ⟨b, r, k, rfl⟩ : ∃ (b : Fin 4) (r : Fin 4096) (k : Fin 27), i = ix3 b r k := ⟨i 0, i 1, i 2, eq_ix3 i⟩
  rw [least2_at]
  exact nearest2 (batch d b) (fun r i => d (ix3 b r i)) (fun _ _ => hd _) (fun _ _ => rfl) r k

/-! ## What the precondition says -/

theorem finite_of_pre (a0 : FVec Ideal S4x4096x128 .f32) (a1 : FVec Ideal S4x4096x3 .f32) (a2 : FVec Ideal S128x64 .f32)
    (a3 : FVec Ideal S64 .f32) (a4 : FVec Ideal S64x1 .f32) (a5 : FVec Ideal S1 .f32) [Cert.Pre_points_finite.Facts]
    (h : Cert.Pre_points_finite.fn (F := Ideal) a0 a1 a2 a3 a4 a5 = fun _ => 1#1) (i : S4x4096x3.Idx) : ∃ a : ℝ, a1 i = (a : EReal) := by
  have e := congrFun h ix0
  unfold Cert.Pre_points_finite.fn at e
  have sub : Subsingleton Cert.Pre_points_finite.S_.Idx := ⟨fun a b => funext fun i => i.elim0⟩
  have e1 := Host.reduce_andi_all _ _ _ _ _ e i
  obtain ⟨b, r, k, rfl⟩ : ∃ (b : Fin 4) (r : Fin 4096) (k : Fin 3), i = ix3 b r k := ⟨i 0, i 1, i 2, eq_ix3 i⟩
  pointwise at e1
  have ht : Ideal.ofBits FTy.f32 2139095040#32 = ⊤ := by simp [Ideal.ofBits, Ideal.ieee]
  have e2 := of_decide_eq_true ((StableHlo.Predicate.ofBool_eq_one_iff _).1 e1)
  rw [ht] at e2
  obtain ⟨e3, e4⟩ := max_lt_iff.1 (show max (a1 (ix3 b r k)) (-a1 (ix3 b r k)) < (⊤ : EReal) from e2)
  refine ⟨(a1 (ix3 b r k) : EReal).toReal, (EReal.coe_toReal e3.ne fun e5 => ?_).symm⟩
  rw [show (a1 (ix3 b r k) : EReal) = ⊥ from e5] at e4
  exact absurd e4 (by simp)

/-! ## The run -/

section Run

variable (m : (ℓ : Loc nD τ sig) → Buf (Elt Ideal) ℓ) (ρ : Dev nD → PrngReg) (c : Dev nD)

theorem row_of (y : FVec Ideal S64 .f32) (h) (k : Fin 64) : shapeCast S1x64 y h (ix2 0 k) = y (ix1 k) := by
  pointwise

theorem cell_of (y : FVec Ideal S1 .f32) (h) : shapeCast S1x1 y h (ix2 0 0) = y (ix1 0) := by
  pointwise

theorem start3 (k : Fin 64) : V1 m ρ c main_v0 (ix2 0 k) = m ((c.tc : Thread nD τ).loc main_arg3) (ix1 k) := by
  show StableHlo.after hostOps0 (W0 m ρ c) (Proc.devRef .tc main_v0) (ix2 0 k) = _
  simp only [hostOps0]
  after_results_simp
  exact row_of _ _ k

theorem start5 : V1 m ρ c main_v1 (ix2 0 0) = m ((c.tc : Thread nD τ).loc main_arg5) (ix1 0) := by
  show StableHlo.after hostOps0 (W0 m ρ c) (Proc.devRef .tc main_v1) (ix2 0 0) = _
  simp only [hostOps0]
  after_results_simp
  exact cell_of _ _

/-- The reference's scores of these arguments. -/
abbrev scoresOf : FVec Ideal S4x4096x1 .f32 :=
  scores (m ((c.tc : Thread nD τ).loc main_arg0)) (m ((c.tc : Thread nD τ).loc main_arg2)) (m ((c.tc : Thread nD τ).loc main_arg3))
    (m ((c.tc : Thread nD τ).loc main_arg4)) (m ((c.tc : Thread nD τ).loc main_arg5))

/-- The reference's points of these arguments. -/
abbrev pointsOf : FVec Ideal S4x512x3 .f32 := taken (m ((c.tc : Thread nD τ).loc main_arg1)) (order (scoresOf m c))

theorem args1 : V1 m ρ c main_arg0 = m ((c.tc : Thread nD τ).loc main_arg0) ∧ V1 m ρ c main_arg1 = m ((c.tc : Thread nD τ).loc main_arg1)
    ∧ V1 m ρ c main_arg2 = m ((c.tc : Thread nD τ).loc main_arg2) ∧ V1 m ρ c main_arg4 = m ((c.tc : Thread nD τ).loc main_arg4) :=
  ⟨W1_args m ρ c main_arg0 (by decide), W1_args m ρ c main_arg1 (by decide), W1_args m ρ c main_arg2 (by decide),
    W1_args m ρ c main_arg4 (by decide)⟩

theorem scores_run : W4 m ρ c (Proc.devRef .tc main_v2_0) = scoresOf m c := by
  refine (W4_of m ρ c main_v2_0 (by decide)).trans ((W3_of m ρ c main_v2_0 (by decide)).trans ((W2_arr m ρ c 6).trans ?_))
  rw [arr0_6, (args1 m ρ c).1, (args1 m ρ c).2.2.1, (args1 m ρ c).2.2.2]
  exact scores_eq _ _ _ _ _ _ _ (start3 m ρ c) (start5 m ρ c)

theorem points_run : W4 m ρ c (Proc.devRef .tc main_v2_2) = pointsOf m c := by
  refine (W4_of m ρ c main_v2_2 (by decide)).trans ((W3_of m ρ c main_v2_2 (by decide)).trans ((W2_arr m ρ c 8).trans ?_))
  rw [arr0_8, (args1 m ρ c).1, (args1 m ρ c).2.1, (args1 m ρ c).2.2.1, (args1 m ρ c).2.2.2]
  exact points_eq _ _ _ _ _ _ _ _ (start3 m ρ c) (start5 m ρ c)

theorem far_run : V2 m ρ c main_v2_3 = far (pointsOf m c) (m ((c.tc : Thread nD τ).loc main_arg1)) := by
  refine (W2_arr m ρ c 9).trans ?_
  rw [arr0_9, (args1 m ρ c).1, (args1 m ρ c).2.1, (args1 m ρ c).2.2.1, (args1 m ρ c).2.2.2]
  exact far_eq _ _ _ _ _ _ _ _ (start3 m ρ c) (start5 m ρ c)

theorem back_run : V3 m ρ c main_v2_4 = back (pointsOf m c) (m ((c.tc : Thread nD τ).loc main_arg1)) := by
  refine (W3_of m ρ c main_v2_4 (by decide)).trans ((W2_arr m ρ c 10).trans ?_)
  rw [arr0_10, (args1 m ρ c).1, (args1 m ρ c).2.1, (args1 m ρ c).2.2.1, (args1 m ρ c).2.2.2]
  exact back_eq _ _ _ _ _ _ _ _ (start3 m ρ c) (start5 m ρ c)

variable (hf : ∀ i, ∃ a : ℝ, m ((c.tc : Thread nD τ).loc main_arg1) i = (a : EReal))

include hf

theorem near1_run : W4 m ρ c (Proc.devRef .tc main_v3_0) = least1 (far (pointsOf m c) (m ((c.tc : Thread nD τ).loc main_arg1))) := by
  refine (W4_of m ρ c main_v3_0 (by decide)).trans ((W3_arr m ρ c 1).trans ?_)
  rw [arr1_1, far_run]
  exact least1_eq _ (far_lt_top _ _ _ _ _ _ _ _ (start3 m ρ c) (start5 m ρ c) hf)

theorem near2_run : W4 m ρ c (Proc.devRef .tc main_v4) = least2 (back (pointsOf m c) (m ((c.tc : Thread nD τ).loc main_arg1))) := by
  refine (W4_arr m ρ c 1).trans ?_
  rw [arr2_1, back_run]
  exact least2_eq _ (back_lt_top _ _ _ _ _ _ _ _ (start3 m ρ c) (start5 m ρ c) hf)

end Run

end Cert.Proof.SelectResults

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Select
public import proofs.«01_k».proof.Proof.Gen.Select.Skeleton
public import proofs.«01_k».proof.Proof.Gen.Select.Launch
public import proofs.«01_k».proof.Proof.Gen.Select.Frame
public import proofs.«01_k».proof.Proof.Gen.SelectIdeal
public import proofs.«01_k».proof.Proof.Gen.SelectIdeal.Skeleton
public import proofs.«01_k».proof.Proof.Gen.SelectIdeal.Launch
public import proofs.«01_k».proof.Proof.Gen.SelectIdeal.Frame
public import proofs.«01_k».proof.Proof.Gen.SelectReferenceIdeal.Run
public import proofs.«01_k».proof.Proof.Gen.Pre_points_finite
public import proofs.«01_k».proof.Proof.Gen.Pre_idx_in_range
public import proofs.«01_k».proof.Proof.Sums
public import proofs.«01_k».proof.Proof.Reference
public import proofs.«01_k».proof.Proof.SelectResults
public import Idealize.ShloMosaic.Lib.Quiescent
public import Idealize.ShloMosaic.Adequacy
public import Idealize.ShloMosaic.Init

@[expose] public section

noncomputable section

namespace Cert.Proof

open Idealize.ShloMosaic Idealize.SL.Sem Cert.Kernel
open Cert.Proof.KernelBody

section Kernel

variable {F : FTy → Type} [FloatOps F] [∀ e, Nonempty (Elt F e)]

/-- What a run of the kernel from memory `m` ends with: the result read off `V3`, the arguments as they were, every
    semaphore at zero. -/
theorem kernel_run (m : (ℓ : Loc nD τ sig) → Buf (Elt F) ℓ) (g : Dev nD → PrngReg) (h : ∀ d, Small m d) :
    θ_run (Cert.Kernel.defs (F := F)) (Cert.Kernel.threads (F := F)) ⟨m, fun _ => 0, g⟩ (fun r => (∀ c : Dev nD,
      r.2.mem ((c.tc : Thread nD τ).loc main_v11) = V3 m c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine (θ_run _ _ _).mono (fun r hr => ⟨fun c => ⟨?_, ?_, ?_, ?_⟩, hr.2⟩) (run_main m g fun d => inRange_of_small m d (h d))
  · exact hr.1 c (Proc.devRef .tc main_v11) (by decide)
  · exact (hr.1 c (Proc.devRef .tc main_arg0) (by decide)).trans (V3_arg0 m c)
  · exact (hr.1 c (Proc.devRef .tc main_arg1) (by decide)).trans (V3_arg1 m c)
  · exact (hr.1 c (Proc.devRef .tc main_arg2) (by decide)).trans (V3_arg2 m c)

/-- The arguments and the semaphores alone. -/
theorem kernel_frame (m : (ℓ : Loc nD τ sig) → Buf (Elt F) ℓ) (g : Dev nD → PrngReg) (h : ∀ d, Small m d) :
    θ_run (Cert.Kernel.defs (F := F)) (Cert.Kernel.threads (F := F)) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun _ hr => ⟨fun c => (hr.1 c).2, hr.2⟩) (kernel_run m g h)

end Kernel

theorem frame_kernel : Cert.quiescent_Kernel := fun m g hpre =>
  kernel_frame (F := Bits) m g fun d => small_of_pre m d (hpre d)

theorem frame_kernelIdeal : Cert.quiescent_KernelIdeal := fun m g hpre =>
  kernel_frame (F := Ideal) m g fun d => small_of_pre (F := Ideal) m d (hpre d)

theorem frame_kernelIdeal_sums : Cert.quiescent_KernelIdeal_pre_sums_nonzero := fun m g hpre =>
  kernel_frame (F := Ideal) m g fun d => (Weighted.pre_parts _ _ _ (hpre d)).1

/-- Every run of the reference leaves its arguments unchanged; it has no semaphore. -/
theorem frame_reference : Cert.quiescent_ReferenceIdeal := by
  intro m g _
  suffices h : θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) from
    (θ_run _ _ _).mono (fun r hr => ⟨hr, sem_eq_zero_of_no_sems (by decide) r.2⟩) h
  hlo_run

theorem frame_reference_sums : Cert.quiescent_ReferenceIdeal_pre_sums_nonzero := fun m g _ => frame_reference m g trivial

/-- Over the extended reals the two programs end with the same result. -/
theorem same_result : Cert.algebraic_KernelIdeal_ReferenceIdeal_pre_sums_nonzero := by
  intro m g m' g' hpre hagree
  have hp := fun c => Weighted.pre_parts _ _ _ (hpre c)
  refine ⟨fun c => Weighted.result (arg0 (F := Ideal) m c) (arg1 (F := Ideal) m c) (arg2 (F := Ideal) m c), ?_, ?_⟩
  · refine (θ_run _ _ _).mono (fun r hr c => ⟨?_, (hr.1 c).2⟩) (kernel_run (F := Ideal) m g fun c => (hp c).1)
    refine (hr.1 c).1.trans (funext fun i => ?_)
    obtain ⟨b, q, x, rfl⟩ : ∃ (b : Fin 4) (q : Fin 512) (x : Fin 128), i = ix3 b q x := ⟨i 0, i 1, i 2, eq_ix3 i⟩
    exact (V3_result (F := Ideal) m c b q x).trans (outVal_eq m c (hp c).1 (hp c).2 b q x)
  · refine (θ_run _ _ _).mono (fun r hr c => ⟨?_, (hr c).2⟩) (RefValue.run m' g' fun c => ?_)
    · refine (hr c).1.trans ?_
      rw [(hagree c).1, (hagree c).2.1, (hagree c).2.2]
    · rw [(hagree c).2.2]
      exact (hp c).1

theorem frame_select : Cert.quiescent_Select := fun m g _ => Cert.Select.Gen.frame m g

theorem frame_selectIdeal : Cert.quiescent_SelectIdeal := fun m g _ => Cert.SelectIdeal.Gen.frame m g

theorem frame_selectIdeal_points : Cert.quiescent_SelectIdeal_pre_points_finite := fun m g _ => Cert.SelectIdeal.Gen.frame m g

/-- Every run of the selection's reference leaves its arguments unchanged; it has no semaphore. -/
theorem frame_selectReference : Cert.quiescent_SelectReferenceIdeal := fun m g _ =>
  (θ_run _ _ _).mono (fun r hr => ⟨fun c => (hr c).2.2.2.2, sem_eq_zero_of_no_sems (by decide) r.2⟩)
    (Cert.SelectReferenceIdeal.Value.run (F := Ideal) m g)

theorem frame_selectReference_points : Cert.quiescent_SelectReferenceIdeal_pre_points_finite := fun m g _ =>
  frame_selectReference m g trivial

/-- Over the extended reals the three TensorCore calls and the selection's reference end with the same results. -/
theorem same_selection : Cert.algebraic_SelectIdeal_SelectReferenceIdeal_pre_points_finite := by
  intro m g m' g' hpre hagree
  have hf := fun c => SelectResults.finite_of_pre _ _ _ _ _ _ (hpre c)
  refine ⟨fun c => SelectResults.pointsOf m c, fun c => SelectResults.scoresOf m c,
    fun c => SelectReference.least1 (SelectReference.far (SelectResults.pointsOf m c)
      (m ((c.tc : Thread Cert.SelectIdeal.nD Cert.SelectIdeal.τ).loc Cert.SelectIdeal.main_arg1))),
    fun c => SelectReference.least2 (SelectReference.back (SelectResults.pointsOf m c)
      (m ((c.tc : Thread Cert.SelectIdeal.nD Cert.SelectIdeal.τ).loc Cert.SelectIdeal.main_arg1))), ?_, ?_⟩
  · exact (θ_run _ _ _).mono (fun r hr c => ⟨(hr c).1.trans (SelectResults.points_run m g c), (hr c).2.1.trans (SelectResults.scores_run m g c),
      (hr c).2.2.1.trans (SelectResults.near1_run m g c (hf c)), (hr c).2.2.2.1.trans (SelectResults.near2_run m g c (hf c)), (hr c).2.2.2.2⟩)
      (SelectRun.results m g)
  · refine (θ_run _ _ _).mono (fun r hr c => ?_) (SelectReference.run m' g')
    obtain ⟨s, x, v, hs, hx, hv, h1, h2, h3, h4, h5⟩ := hr c
    obtain ⟨e0, e1, e2, e3, e4, e5⟩ := hagree c
    have es : s = SelectResults.scoresOf m c := by rw [hs, e0, e2, e3, e4, e5]
    have ex := hx.trans e1
    have ev : v = SelectResults.pointsOf m c := by rw [hv, ex, es]
    exact ⟨h1.trans ev, h2.trans es, h3.trans (by rw [ev, ex]), h4.trans (by rw [ev, ex]), h5⟩

theorem claim : Cert.Claim :=
  ⟨Cert.Kernel.Gen.facts, Cert.KernelIdeal.Gen.facts, Cert.ReferenceIdeal.Gen.facts, Cert.Select.Gen.facts, Cert.SelectIdeal.Gen.facts,
    Cert.SelectReferenceIdeal.Gen.facts, Cert.Pre_idx_in_range.Gen.facts, Weighted.facts, Cert.Pre_points_finite.Gen.facts,
    frame_kernel, frame_kernelIdeal, frame_kernelIdeal_sums, frame_reference, frame_reference_sums, frame_select, frame_selectIdeal,
    frame_selectIdeal_points, frame_selectReference, frame_selectReference_points, trivial, same_result, trivial, same_selection⟩

end Cert.Proof

end
